-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = Layout.block ⟨3, ![2, 128, 256]⟩ ⟨3, ![64, 128, 256]⟩ 0 32 c (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v16) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S256x128 : Shape := ⟨2, ![256, 128]⟩
abbrev S128x64 : Shape := ⟨2, ![128, 64]⟩
abbrev S256x1 : Shape := ⟨2, ![256, 1]⟩
abbrev S2x128x256 : Shape := ⟨3, ![2, 128, 256]⟩
abbrev S256x256 : Shape := ⟨2, ![256, 256]⟩
abbrev S32x8x256 : Shape := ⟨3, ![32, 8, 256]⟩
abbrev S8x256 : Shape := ⟨2, ![8, 256]⟩
abbrev S32 : Shape := ⟨1, ![32]⟩
abbrev S_ : Shape := ⟨0, ![]⟩
abbrev S1x128x256 : Shape := ⟨3, ![1, 128, 256]⟩
abbrev S128x256 : Shape := ⟨2, ![128, 256]⟩
abbrev S1x8x256 : Shape := ⟨3, ![1, 8, 256]⟩
abbrev S1 : Shape := ⟨1, ![1]⟩

abbrev nBuf : Space → Nat
  | .hbm => 5
  | .vmem => 6
  | .smem => 0
  | _ => 0

abbrev bufTy : (tb : Table) → Fin (tcTables nBuf tb) → BufTy
  | .hbm, ⟨0, _⟩ => ⟨S256x128, .f32⟩
  | .hbm, ⟨1, _⟩ => ⟨S128x64, .f32⟩
  | .hbm, ⟨2, _⟩ => ⟨S256x1, .i32⟩
  | .hbm, ⟨3, _⟩ => ⟨S2x128x256, .f32⟩
  | .hbm, ⟨4, _⟩ => ⟨S256x256, .f32⟩
  | .local _ .vmem, ⟨0, _⟩ => ⟨S256x128, .f32⟩
  | .local _ .vmem, ⟨1, _⟩ => ⟨S256x1, .i32⟩
  | .local _ .vmem, ⟨2, _⟩ => ⟨S2x128x256, .f32⟩
  | .local _ .vmem, ⟨3, _⟩ => ⟨S256x256, .f32⟩
  | .local _ .vmem, ⟨4, _⟩ => ⟨S32x8x256, .f32⟩
  | .local _ .vmem, ⟨5, _⟩ => ⟨S8x256, .f32⟩
  | _, _ => ⟨S256x128, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 1 → Bool
  | ⟨0, _⟩ => false
  | _ => false

abbrev dmaSemScoped : Fin 132 → Bool
  | ⟨i, _⟩ => dmaSemScopedAt i

abbrev sig : RefSig :=
  (ofTc nBuf bufTy 1 132 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 32
abbrev τ : Topo := Topo.v7x

variable {F : FTy → Type} [FloatOps F]

abbrev grid0 : Pipeline.Grid := .none

def k0_cond1 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .ne v2 c0_i32
  let v5 : BitVec 32 := Scalar.extui v4
  let c0_i32_0 : BitVec 32 := 0#32
  let v6 : BitVec 1 := Scalar.cmpi .ne v5 c0_i32_0
  v6

def k0_dev1 : Nat :=
  let c0_i32_509 : BitVec 32 := 0#32
  let c0_i32_507 : BitVec 32 := 0#32
  let c1_i32_508 : BitVec 32 := 1#32
  let v809 : BitVec 32 := Scalar.muli c0_i32_507 c1_i32_508
  let v810 : BitVec 32 := Scalar.addi c0_i32_509 v809
  v810.toNat
def k0_cond2 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1 : BitVec 32 := 1#32
  let v7 : BitVec 1 := Scalar.cmpi .ne v2 c1_i32_1
  let v8 : BitVec 32 := Scalar.extui v7
  let c0_i32_2 : BitVec 32 := 0#32
  let v9 : BitVec 1 := Scalar.cmpi .ne v8 c0_i32_2
  v9

def k0_dev2 : Nat :=
  let c0_i32_509 : BitVec 32 := 0#32
  let c1_i32_507 : BitVec 32 := 1#32
  let c1_i32_508 : BitVec 32 := 1#32
  let v809 : BitVec 32 := Scalar.muli c1_i32_507 c1_i32_508
  let v810 : BitVec 32 := Scalar.addi c0_i32_509 v809
  v810.toNat
def k0_cond3 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v10 : BitVec 1 := Scalar.cmpi .ne v2 c2_i32
  let v11 : BitVec 32 := Scalar.extui v10
  let c0_i32_3 : BitVec 32 := 0#32
  let v12 : BitVec 1 := Scalar.cmpi .ne v11 c0_i32_3
  v12

def k0_dev3 : Nat :=
  let c0_i32_509 : BitVec 32 := 0#32
  let c2_i32_507 : BitVec 32 := 2#32
  let c1_i32_508 : BitVec 32 := 1#32
  let v809 : BitVec 32 := Scalar.muli c2_i32_507 c1_i32_508
  let v810 : BitVec 32 := Scalar.addi c0_i32_509 v809
  v810.toNat
def k0_cond4 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v13 : BitVec 1 := Scalar.cmpi .ne v2 c3_i32
  let v14 : BitVec 32 := Scalar.extui v13
  let c0_i32_4 : BitVec 32 := 0#32
  let v15 : BitVec 1 := Scalar.cmpi .ne v14 c0_i32_4
  v15

def k0_dev4 : Nat :=
  let c0_i32_509 : BitVec 32 := 0#32
  let c3_i32_507 : BitVec 32 := 3#32
  let c1_i32_508 : BitVec 32 := 1#32
  let v809 : BitVec 32 := Scalar.muli c3_i32_507 c1_i32_508
  let v810 : BitVec 32 := Scalar.addi c0_i32_509 v809
  v810.toNat
def k0_cond5 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v16 : BitVec 1 := Scalar.cmpi .ne v2 c4_i32
  let v17 : BitVec 32 := Scalar.extui v16
  let c0_i32_5 : BitVec 32 := 0#32
  let v18 : BitVec 1 := Scalar.cmpi .ne v17 c0_i32_5
  v18

def k0_dev5 : Nat :=
  let c0_i32_509 : BitVec 32 := 0#32
  let c4_i32_507 : BitVec 32 := 4#32
  let c1_i32_508 : BitVec 32 := 1#32
  let v809 : BitVec 32 := Scalar.muli c4_i32_507 c1_i32_508
  let v810 : BitVec 32 := Scalar.addi c0_i32_509 v809
  v810.toNat
def k0_cond6 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32 : BitVec 32 := 5#32
  let v19 : BitVec 1 := Scalar.cmpi .ne v2 c5_i32
  let v20 : BitVec 32 := Scalar.extui v19
  let c0_i32_6 : BitVec 32 := 0#32
  let v21 : BitVec 1 := Scalar.cmpi .ne v20 c0_i32_6
  v21

def k0_dev6 : Nat :=
  let c0_i32_509 : BitVec 32 := 0#32
  let c5_i32_507 : BitVec 32 := 5#32
  let c1_i32_508 : BitVec 32 := 1#32
  let v809 : BitVec 32 := Scalar.muli c5_i32_507 c1_i32_508
  let v810 : BitVec 32 := Scalar.addi c0_i32_509 v809
  v810.toNat
def k0_cond7 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32 : BitVec 32 := 6#32
  let v22 : BitVec 1 := Scalar.cmpi .ne v2 c6_i32
  let v23 : BitVec 32 := Scalar.extui v22
  let c0_i32_7 : BitVec 32 := 0#32
  let v24 : BitVec 1 := Scalar.cmpi .ne v23 c0_i32_7
  v24

def k0_dev7 : Nat :=
  let c0_i32_509 : BitVec 32 := 0#32
  let c6_i32_507 : BitVec 32 := 6#32
  let c1_i32_508 : BitVec 32 := 1#32
  let v809 : BitVec 32 := Scalar.muli c6_i32_507 c1_i32_508
  let v810 : BitVec 32 := Scalar.addi c0_i32_509 v809
  v810.toNat
def k0_cond8 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32 : BitVec 32 := 7#32
  let v25 : BitVec 1 := Scalar.cmpi .ne v2 c7_i32
  let v26 : BitVec 32 := Scalar.extui v25
  let c0_i32_8 : BitVec 32 := 0#32
  let v27 : BitVec 1 := Scalar.cmpi .ne v26 c0_i32_8
  v27

def k0_dev8 : Nat :=
  let c0_i32_509 : BitVec 32 := 0#32
  let c7_i32_507 : BitVec 32 := 7#32
  let c1_i32_508 : BitVec 32 := 1#32
  let v809 : BitVec 32 := Scalar.muli c7_i32_507 c1_i32_508
  let v810 : BitVec 32 := Scalar.addi c0_i32_509 v809
  v810.toNat
def k0_cond9 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v28 : BitVec 1 := Scalar.cmpi .ne v2 c8_i32
  let v29 : BitVec 32 := Scalar.extui v28
  let c0_i32_9 : BitVec 32 := 0#32
  let v30 : BitVec 1 := Scalar.cmpi .ne v29 c0_i32_9
  v30

def k0_dev9 : Nat :=
  let c0_i32_509 : BitVec 32 := 0#32
  let c8_i32_507 : BitVec 32 := 8#32
  let c1_i32_508 : BitVec 32 := 1#32
  let v809 : BitVec 32 := Scalar.muli c8_i32_507 c1_i32_508
  let v810 : BitVec 32 := Scalar.addi c0_i32_509 v809
  v810.toNat
def k0_cond10 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32 : BitVec 32 := 9#32
  let v31 : BitVec 1 := Scalar.cmpi .ne v2 c9_i32
  let v32 : BitVec 32 := Scalar.extui v31
  let c0_i32_10 : BitVec 32 := 0#32
  let v33 : BitVec 1 := Scalar.cmpi .ne v32 c0_i32_10
  v33

def k0_dev10 : Nat :=
  let c0_i32_509 : BitVec 32 := 0#32
  let c9_i32_507 : BitVec 32 := 9#32
  let c1_i32_508 : BitVec 32 := 1#32
  let v809 : BitVec 32 := Scalar.muli c9_i32_507 c1_i32_508
  let v810 : BitVec 32 := Scalar.addi c0_i32_509 v809
  v810.toNat
def k0_cond11 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32 : BitVec 32 := 10#32
  let v34 : BitVec 1 := Scalar.cmpi .ne v2 c10_i32
  let v35 : BitVec 32 := Scalar.extui v34
  let c0_i32_11 : BitVec 32 := 0#32
  let v36 : BitVec 1 := Scalar.cmpi .ne v35 c0_i32_11
  v36

def k0_dev11 : Nat :=
  let c0_i32_509 : BitVec 32 := 0#32
  let c10_i32_507 : BitVec 32 := 10#32
  let c1_i32_508 : BitVec 32 := 1#32
  let v809 : BitVec 32 := Scalar.muli c10_i32_507 c1_i32_508
  let v810 : BitVec 32 := Scalar.addi c0_i32_509 v809
  v810.toNat
def k0_cond12 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32 : BitVec 32 := 11#32
  let v37 : BitVec 1 := Scalar.cmpi .ne v2 c11_i32
  let v38 : BitVec 32 := Scalar.extui v37
  let c0_i32_12 : BitVec 32 := 0#32
  let v39 : BitVec 1 := Scalar.cmpi .ne v38 c0_i32_12
  v39

def k0_dev12 : Nat :=
  let c0_i32_509 : BitVec 32 := 0#32
  let c11_i32_507 : BitVec 32 := 11#32
  let c1_i32_508 : BitVec 32 := 1#32
  let v809 : BitVec 32 := Scalar.muli c11_i32_507 c1_i32_508
  let v810 : BitVec 32 := Scalar.addi c0_i32_509 v809
  v810.toNat
def k0_cond13 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32 : BitVec 32 := 12#32
  let v40 : BitVec 1 := Scalar.cmpi .ne v2 c12_i32
  let v41 : BitVec 32 := Scalar.extui v40
  let c0_i32_13 : BitVec 32 := 0#32
  let v42 : BitVec 1 := Scalar.cmpi .ne v41 c0_i32_13
  v42

def k0_dev13 : Nat :=
  let c0_i32_509 : BitVec 32 := 0#32
  let c12_i32_507 : BitVec 32 := 12#32
  let c1_i32_508 : BitVec 32 := 1#32
  let v809 : BitVec 32 := Scalar.muli c12_i32_507 c1_i32_508
  let v810 : BitVec 32 := Scalar.addi c0_i32_509 v809
  v810.toNat
def k0_cond14 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32 : BitVec 32 := 13#32
  let v43 : BitVec 1 := Scalar.cmpi .ne v2 c13_i32
  let v44 : BitVec 32 := Scalar.extui v43
  let c0_i32_14 : BitVec 32 := 0#32
  let v45 : BitVec 1 := Scalar.cmpi .ne v44 c0_i32_14
  v45

def k0_dev14 : Nat :=
  let c0_i32_509 : BitVec 32 := 0#32
  let c13_i32_507 : BitVec 32 := 13#32
  let c1_i32_508 : BitVec 32 := 1#32
  let v809 : BitVec 32 := Scalar.muli c13_i32_507 c1_i32_508
  let v810 : BitVec 32 := Scalar.addi c0_i32_509 v809
  v810.toNat
def k0_cond15 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32 : BitVec 32 := 14#32
  let v46 : BitVec 1 := Scalar.cmpi .ne v2 c14_i32
  let v47 : BitVec 32 := Scalar.extui v46
  let c0_i32_15 : BitVec 32 := 0#32
  let v48 : BitVec 1 := Scalar.cmpi .ne v47 c0_i32_15
  v48

def k0_dev15 : Nat :=
  let c0_i32_509 : BitVec 32 := 0#32
  let c14_i32_507 : BitVec 32 := 14#32
  let c1_i32_508 : BitVec 32 := 1#32
  let v809 : BitVec 32 := Scalar.muli c14_i32_507 c1_i32_508
  let v810 : BitVec 32 := Scalar.addi c0_i32_509 v809
  v810.toNat
def k0_cond16 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32 : BitVec 32 := 15#32
  let v49 : BitVec 1 := Scalar.cmpi .ne v2 c15_i32
  let v50 : BitVec 32 := Scalar.extui v49
  let c0_i32_16 : BitVec 32 := 0#32
  let v51 : BitVec 1 := Scalar.cmpi .ne v50 c0_i32_16
  v51

def k0_dev16 : Nat :=
  let c0_i32_509 : BitVec 32 := 0#32
  let c15_i32_507 : BitVec 32 := 15#32
  let c1_i32_508 : BitVec 32 := 1#32
  let v809 : BitVec 32 := Scalar.muli c15_i32_507 c1_i32_508
  let v810 : BitVec 32 := Scalar.addi c0_i32_509 v809
  v810.toNat
def k0_cond17 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32 : BitVec 32 := 16#32
  let v52 : BitVec 1 := Scalar.cmpi .ne v2 c16_i32
  let v53 : BitVec 32 := Scalar.extui v52
  let c0_i32_17 : BitVec 32 := 0#32
  let v54 : BitVec 1 := Scalar.cmpi .ne v53 c0_i32_17
  v54

def k0_dev17 : Nat :=
  let c0_i32_509 : BitVec 32 := 0#32
  let c16_i32_507 : BitVec 32 := 16#32
  let c1_i32_508 : BitVec 32 := 1#32
  let v809 : BitVec 32 := Scalar.muli c16_i32_507 c1_i32_508
  let v810 : BitVec 32 := Scalar.addi c0_i32_509 v809
  v810.toNat
def k0_cond18 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32 : BitVec 32 := 17#32
  let v55 : BitVec 1 := Scalar.cmpi .ne v2 c17_i32
  let v56 : BitVec 32 := Scalar.extui v55
  let c0_i32_18 : BitVec 32 := 0#32
  let v57 : BitVec 1 := Scalar.cmpi .ne v56 c0_i32_18
  v57

def k0_dev18 : Nat :=
  let c0_i32_509 : BitVec 32 := 0#32
  let c17_i32_507 : BitVec 32 := 17#32
  let c1_i32_508 : BitVec 32 := 1#32
  let v809 : BitVec 32 := Scalar.muli c17_i32_507 c1_i32_508
  let v810 : BitVec 32 := Scalar.addi c0_i32_509 v809
  v810.toNat
def k0_cond19 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32 : BitVec 32 := 18#32
  let v58 : BitVec 1 := Scalar.cmpi .ne v2 c18_i32
  let v59 : BitVec 32 := Scalar.extui v58
  let c0_i32_19 : BitVec 32 := 0#32
  let v60 : BitVec 1 := Scalar.cmpi .ne v59 c0_i32_19
  v60

def k0_dev19 : Nat :=
  let c0_i32_509 : BitVec 32 := 0#32
  let c18_i32_507 : BitVec 32 := 18#32
  let c1_i32_508 : BitVec 32 := 1#32
  let v809 : BitVec 32 := Scalar.muli c18_i32_507 c1_i32_508
  let v810 : BitVec 32 := Scalar.addi c0_i32_509 v809
  v810.toNat
def k0_cond20 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32 : BitVec 32 := 19#32
  let v61 : BitVec 1 := Scalar.cmpi .ne v2 c19_i32
  let v62 : BitVec 32 := Scalar.extui v61
  let c0_i32_20 : BitVec 32 := 0#32
  let v63 : BitVec 1 := Scalar.cmpi .ne v62 c0_i32_20
  v63

def k0_dev20 : Nat :=
  let c0_i32_509 : BitVec 32 := 0#32
  let c19_i32_507 : BitVec 32 := 19#32
  let c1_i32_508 : BitVec 32 := 1#32
  let v809 : BitVec 32 := Scalar.muli c19_i32_507 c1_i32_508
  let v810 : BitVec 32 := Scalar.addi c0_i32_509 v809
  v810.toNat
def k0_cond21 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32 : BitVec 32 := 20#32
  let v64 : BitVec 1 := Scalar.cmpi .ne v2 c20_i32
  let v65 : BitVec 32 := Scalar.extui v64
  let c0_i32_21 : BitVec 32 := 0#32
  let v66 : BitVec 1 := Scalar.cmpi .ne v65 c0_i32_21
  v66

def k0_dev21 : Nat :=
  let c0_i32_509 : BitVec 32 := 0#32
  let c20_i32_507 : BitVec 32 := 20#32
  let c1_i32_508 : BitVec 32 := 1#32
  let v809 : BitVec 32 := Scalar.muli c20_i32_507 c1_i32_508
  let v810 : BitVec 32 := Scalar.addi c0_i32_509 v809
  v810.toNat
def k0_cond22 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32 : BitVec 32 := 21#32
  let v67 : BitVec 1 := Scalar.cmpi .ne v2 c21_i32
  let v68 : BitVec 32 := Scalar.extui v67
  let c0_i32_22 : BitVec 32 := 0#32
  let v69 : BitVec 1 := Scalar.cmpi .ne v68 c0_i32_22
  v69

def k0_dev22 : Nat :=
  let c0_i32_509 : BitVec 32 := 0#32
  let c21_i32_507 : BitVec 32 := 21#32
  let c1_i32_508 : BitVec 32 := 1#32
  let v809 : BitVec 32 := Scalar.muli c21_i32_507 c1_i32_508
  let v810 : BitVec 32 := Scalar.addi c0_i32_509 v809
  v810.toNat
def k0_cond23 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32 : BitVec 32 := 22#32
  let v70 : BitVec 1 := Scalar.cmpi .ne v2 c22_i32
  let v71 : BitVec 32 := Scalar.extui v70
  let c0_i32_23 : BitVec 32 := 0#32
  let v72 : BitVec 1 := Scalar.cmpi .ne v71 c0_i32_23
  v72

def k0_dev23 : Nat :=
  let c0_i32_509 : BitVec 32 := 0#32
  let c22_i32_507 : BitVec 32 := 22#32
  let c1_i32_508 : BitVec 32 := 1#32
  let v809 : BitVec 32 := Scalar.muli c22_i32_507 c1_i32_508
  let v810 : BitVec 32 := Scalar.addi c0_i32_509 v809
  v810.toNat
def k0_cond24 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32 : BitVec 32 := 23#32
  let v73 : BitVec 1 := Scalar.cmpi .ne v2 c23_i32
  let v74 : BitVec 32 := Scalar.extui v73
  let c0_i32_24 : BitVec 32 := 0#32
  let v75 : BitVec 1 := Scalar.cmpi .ne v74 c0_i32_24
  v75

def k0_dev24 : Nat :=
  let c0_i32_509 : BitVec 32 := 0#32
  let c23_i32_507 : BitVec 32 := 23#32
  let c1_i32_508 : BitVec 32 := 1#32
  let v809 : BitVec 32 := Scalar.muli c23_i32_507 c1_i32_508
  let v810 : BitVec 32 := Scalar.addi c0_i32_509 v809
  v810.toNat
def k0_cond25 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32 : BitVec 32 := 24#32
  let v76 : BitVec 1 := Scalar.cmpi .ne v2 c24_i32
  let v77 : BitVec 32 := Scalar.extui v76
  let c0_i32_25 : BitVec 32 := 0#32
  let v78 : BitVec 1 := Scalar.cmpi .ne v77 c0_i32_25
  v78

def k0_dev25 : Nat :=
  let c0_i32_509 : BitVec 32 := 0#32
  let c24_i32_507 : BitVec 32 := 24#32
  let c1_i32_508 : BitVec 32 := 1#32
  let v809 : BitVec 32 := Scalar.muli c24_i32_507 c1_i32_508
  let v810 : BitVec 32 := Scalar.addi c0_i32_509 v809
  v810.toNat
def k0_cond26 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32 : BitVec 32 := 25#32
  let v79 : BitVec 1 := Scalar.cmpi .ne v2 c25_i32
  let v80 : BitVec 32 := Scalar.extui v79
  let c0_i32_26 : BitVec 32 := 0#32
  let v81 : BitVec 1 := Scalar.cmpi .ne v80 c0_i32_26
  v81

def k0_dev26 : Nat :=
  let c0_i32_509 : BitVec 32 := 0#32
  let c25_i32_507 : BitVec 32 := 25#32
  let c1_i32_508 : BitVec 32 := 1#32
  let v809 : BitVec 32 := Scalar.muli c25_i32_507 c1_i32_508
  let v810 : BitVec 32 := Scalar.addi c0_i32_509 v809
  v810.toNat
def k0_cond27 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32 : BitVec 32 := 26#32
  let v82 : BitVec 1 := Scalar.cmpi .ne v2 c26_i32
  let v83 : BitVec 32 := Scalar.extui v82
  let c0_i32_27 : BitVec 32 := 0#32
  let v84 : BitVec 1 := Scalar.cmpi .ne v83 c0_i32_27
  v84

def k0_dev27 : Nat :=
  let c0_i32_509 : BitVec 32 := 0#32
  let c26_i32_507 : BitVec 32 := 26#32
  let c1_i32_508 : BitVec 32 := 1#32
  let v809 : BitVec 32 := Scalar.muli c26_i32_507 c1_i32_508
  let v810 : BitVec 32 := Scalar.addi c0_i32_509 v809
  v810.toNat
def k0_cond28 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32 : BitVec 32 := 27#32
  let v85 : BitVec 1 := Scalar.cmpi .ne v2 c27_i32
  let v86 : BitVec 32 := Scalar.extui v85
  let c0_i32_28 : BitVec 32 := 0#32
  let v87 : BitVec 1 := Scalar.cmpi .ne v86 c0_i32_28
  v87

def k0_dev28 : Nat :=
  let c0_i32_509 : BitVec 32 := 0#32
  let c27_i32_507 : BitVec 32 := 27#32
  let c1_i32_508 : BitVec 32 := 1#32
  let v809 : BitVec 32 := Scalar.muli c27_i32_507 c1_i32_508
  let v810 : BitVec 32 := Scalar.addi c0_i32_509 v809
  v810.toNat
def k0_cond29 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32 : BitVec 32 := 28#32
  let v88 : BitVec 1 := Scalar.cmpi .ne v2 c28_i32
  let v89 : BitVec 32 := Scalar.extui v88
  let c0_i32_29 : BitVec 32 := 0#32
  let v90 : BitVec 1 := Scalar.cmpi .ne v89 c0_i32_29
  v90

def k0_dev29 : Nat :=
  let c0_i32_509 : BitVec 32 := 0#32
  let c28_i32_507 : BitVec 32 := 28#32
  let c1_i32_508 : BitVec 32 := 1#32
  let v809 : BitVec 32 := Scalar.muli c28_i32_507 c1_i32_508
  let v810 : BitVec 32 := Scalar.addi c0_i32_509 v809
  v810.toNat
def k0_cond30 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32 : BitVec 32 := 29#32
  let v91 : BitVec 1 := Scalar.cmpi .ne v2 c29_i32
  let v92 : BitVec 32 := Scalar.extui v91
  let c0_i32_30 : BitVec 32 := 0#32
  let v93 : BitVec 1 := Scalar.cmpi .ne v92 c0_i32_30
  v93

def k0_dev30 : Nat :=
  let c0_i32_509 : BitVec 32 := 0#32
  let c29_i32_507 : BitVec 32 := 29#32
  let c1_i32_508 : BitVec 32 := 1#32
  let v809 : BitVec 32 := Scalar.muli c29_i32_507 c1_i32_508
  let v810 : BitVec 32 := Scalar.addi c0_i32_509 v809
  v810.toNat
def k0_cond31 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32 : BitVec 32 := 30#32
  let v94 : BitVec 1 := Scalar.cmpi .ne v2 c30_i32
  let v95 : BitVec 32 := Scalar.extui v94
  let c0_i32_31 : BitVec 32 := 0#32
  let v96 : BitVec 1 := Scalar.cmpi .ne v95 c0_i32_31
  v96

def k0_dev31 : Nat :=
  let c0_i32_509 : BitVec 32 := 0#32
  let c30_i32_507 : BitVec 32 := 30#32
  let c1_i32_508 : BitVec 32 := 1#32
  let v809 : BitVec 32 := Scalar.muli c30_i32_507 c1_i32_508
  let v810 : BitVec 32 := Scalar.addi c0_i32_509 v809
  v810.toNat
def k0_cond32 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v97 : BitVec 1 := Scalar.cmpi .ne v2 c31_i32
  let v98 : BitVec 32 := Scalar.extui v97
  let c0_i32_32 : BitVec 32 := 0#32
  let v99 : BitVec 1 := Scalar.cmpi .ne v98 c0_i32_32
  v99

def k0_dev32 : Nat :=
  let c0_i32_509 : BitVec 32 := 0#32
  let c31_i32_507 : BitVec 32 := 31#32
  let c1_i32_508 : BitVec 32 := 1#32
  let v809 : BitVec 32 := Scalar.muli c31_i32_507 c1_i32_508
  let v810 : BitVec 32 := Scalar.addi c0_i32_509 v809
  v810.toNat
def k0_cond34 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_54 : BitVec 32 := 0#32
  let v135 : BitVec 1 := Scalar.cmpi .ne v2 c0_i32_54
  let v136 : BitVec 32 := Scalar.extui v135
  let c0_i32_55 : BitVec 32 := 0#32
  let v137 : BitVec 1 := Scalar.cmpi .ne v136 c0_i32_55
  v137

def k0_off1 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off2 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_510 : BitVec 32 := 0#32
  let c0_i32_511 : BitVec 32 := 0#32
  ![v2.toNat, 0, 0]
def k0_dev33 : Nat :=
  let c0_i32_509 : BitVec 32 := 0#32
  let c0_i32_507 : BitVec 32 := 0#32
  let c1_i32_508 : BitVec 32 := 1#32
  let v809 : BitVec 32 := Scalar.muli c0_i32_507 c1_i32_508
  let v810 : BitVec 32 := Scalar.addi c0_i32_509 v809
  v810.toNat
def k0_cond36 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_58 : BitVec 32 := 1#32
  let v141 : BitVec 1 := Scalar.cmpi .ne v2 c1_i32_58
  let v142 : BitVec 32 := Scalar.extui v141
  let c0_i32_59 : BitVec 32 := 0#32
  let v143 : BitVec 1 := Scalar.cmpi .ne v142 c0_i32_59
  v143

def k0_off3 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off4 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_510 : BitVec 32 := 0#32
  let c0_i32_511 : BitVec 32 := 0#32
  ![v2.toNat, 0, 0]
def k0_dev34 : Nat :=
  let c0_i32_509 : BitVec 32 := 0#32
  let c1_i32_507 : BitVec 32 := 1#32
  let c1_i32_508 : BitVec 32 := 1#32
  let v809 : BitVec 32 := Scalar.muli c1_i32_507 c1_i32_508
  let v810 : BitVec 32 := Scalar.addi c0_i32_509 v809
  v810.toNat
def k0_cond38 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_62 : BitVec 32 := 2#32
  let v147 : BitVec 1 := Scalar.cmpi .ne v2 c2_i32_62
  let v148 : BitVec 32 := Scalar.extui v147
  let c0_i32_63 : BitVec 32 := 0#32
  let v149 : BitVec 1 := Scalar.cmpi .ne v148 c0_i32_63
  v149

def k0_off5 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off6 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_510 : BitVec 32 := 0#32
  let c0_i32_511 : BitVec 32 := 0#32
  ![v2.toNat, 0, 0]
def k0_dev35 : Nat :=
  let c0_i32_509 : BitVec 32 := 0#32
  let c2_i32_507 : BitVec 32 := 2#32
  let c1_i32_508 : BitVec 32 := 1#32
  let v809 : BitVec 32 := Scalar.muli c2_i32_507 c1_i32_508
  let v810 : BitVec 32 := Scalar.addi c0_i32_509 v809
  v810.toNat
def k0_cond40 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_66 : BitVec 32 := 3#32
  let v153 : BitVec 1 := Scalar.cmpi .ne v2 c3_i32_66
  let v154 : BitVec 32 := Scalar.extui v153
  let c0_i32_67 : BitVec 32 := 0#32
  let v155 : BitVec 1 := Scalar.cmpi .ne v154 c0_i32_67
  v155

def k0_off7 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off8 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_510 : BitVec 32 := 0#32
  let c0_i32_511 : BitVec 32 := 0#32
  ![v2.toNat, 0, 0]
def k0_dev36 : Nat :=
  let c0_i32_509 : BitVec 32 := 0#32
  let c3_i32_507 : BitVec 32 := 3#32
  let c1_i32_508 : BitVec 32 := 1#32
  let v809 : BitVec 32 := Scalar.muli c3_i32_507 c1_i32_508
  let v810 : BitVec 32 := Scalar.addi c0_i32_509 v809
  v810.toNat
def k0_cond42 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_70 : BitVec 32 := 4#32
  let v159 : BitVec 1 := Scalar.cmpi .ne v2 c4_i32_70
  let v160 : BitVec 32 := Scalar.extui v159
  let c0_i32_71 : BitVec 32 := 0#32
  let v161 : BitVec 1 := Scalar.cmpi .ne v160 c0_i32_71
  v161

def k0_off9 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off10 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_510 : BitVec 32 := 0#32
  let c0_i32_511 : BitVec 32 := 0#32
  ![v2.toNat, 0, 0]
def k0_dev37 : Nat :=
  let c0_i32_509 : BitVec 32 := 0#32
  let c4_i32_507 : BitVec 32 := 4#32
  let c1_i32_508 : BitVec 32 := 1#32
  let v809 : BitVec 32 := Scalar.muli c4_i32_507 c1_i32_508
  let v810 : BitVec 32 := Scalar.addi c0_i32_509 v809
  v810.toNat
def k0_cond44 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_74 : BitVec 32 := 5#32
  let v165 : BitVec 1 := Scalar.cmpi .ne v2 c5_i32_74
  let v166 : BitVec 32 := Scalar.extui v165
  let c0_i32_75 : BitVec 32 := 0#32
  let v167 : BitVec 1 := Scalar.cmpi .ne v166 c0_i32_75
  v167

def k0_off11 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off12 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_510 : BitVec 32 := 0#32
  let c0_i32_511 : BitVec 32 := 0#32
  ![v2.toNat, 0, 0]
def k0_dev38 : Nat :=
  let c0_i32_509 : BitVec 32 := 0#32
  let c5_i32_507 : BitVec 32 := 5#32
  let c1_i32_508 : BitVec 32 := 1#32
  let v809 : BitVec 32 := Scalar.muli c5_i32_507 c1_i32_508
  let v810 : BitVec 32 := Scalar.addi c0_i32_509 v809
  v810.toNat
def k0_cond46 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_78 : BitVec 32 := 6#32
  let v171 : BitVec 1 := Scalar.cmpi .ne v2 c6_i32_78
  let v172 : BitVec 32 := Scalar.extui v171
  let c0_i32_79 : BitVec 32 := 0#32
  let v173 : BitVec 1 := Scalar.cmpi .ne v172 c0_i32_79
  v173

def k0_off13 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off14 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_510 : BitVec 32 := 0#32
  let c0_i32_511 : BitVec 32 := 0#32
  ![v2.toNat, 0, 0]
def k0_dev39 : Nat :=
  let c0_i32_509 : BitVec 32 := 0#32
  let c6_i32_507 : BitVec 32 := 6#32
  let c1_i32_508 : BitVec 32 := 1#32
  let v809 : BitVec 32 := Scalar.muli c6_i32_507 c1_i32_508
  let v810 : BitVec 32 := Scalar.addi c0_i32_509 v809
  v810.toNat
def k0_cond48 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_82 : BitVec 32 := 7#32
  let v177 : BitVec 1 := Scalar.cmpi .ne v2 c7_i32_82
  let v178 : BitVec 32 := Scalar.extui v177
  let c0_i32_83 : BitVec 32 := 0#32
  let v179 : BitVec 1 := Scalar.cmpi .ne v178 c0_i32_83
  v179

def k0_off15 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off16 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_510 : BitVec 32 := 0#32
  let c0_i32_511 : BitVec 32 := 0#32
  ![v2.toNat, 0, 0]
def k0_dev40 : Nat :=
  let c0_i32_509 : BitVec 32 := 0#32
  let c7_i32_507 : BitVec 32 := 7#32
  let c1_i32_508 : BitVec 32 := 1#32
  let v809 : BitVec 32 := Scalar.muli c7_i32_507 c1_i32_508
  let v810 : BitVec 32 := Scalar.addi c0_i32_509 v809
  v810.toNat
def k0_cond50 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_86 : BitVec 32 := 8#32
  let v183 : BitVec 1 := Scalar.cmpi .ne v2 c8_i32_86
  let v184 : BitVec 32 := Scalar.extui v183
  let c0_i32_87 : BitVec 32 := 0#32
  let v185 : BitVec 1 := Scalar.cmpi .ne v184 c0_i32_87
  v185

def k0_off17 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off18 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_510 : BitVec 32 := 0#32
  let c0_i32_511 : BitVec 32 := 0#32
  ![v2.toNat, 0, 0]
def k0_dev41 : Nat :=
  let c0_i32_509 : BitVec 32 := 0#32
  let c8_i32_507 : BitVec 32 := 8#32
  let c1_i32_508 : BitVec 32 := 1#32
  let v809 : BitVec 32 := Scalar.muli c8_i32_507 c1_i32_508
  let v810 : BitVec 32 := Scalar.addi c0_i32_509 v809
  v810.toNat
def k0_cond52 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_90 : BitVec 32 := 9#32
  let v189 : BitVec 1 := Scalar.cmpi .ne v2 c9_i32_90
  let v190 : BitVec 32 := Scalar.extui v189
  let c0_i32_91 : BitVec 32 := 0#32
  let v191 : BitVec 1 := Scalar.cmpi .ne v190 c0_i32_91
  v191

def k0_off19 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off20 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_510 : BitVec 32 := 0#32
  let c0_i32_511 : BitVec 32 := 0#32
  ![v2.toNat, 0, 0]
def k0_dev42 : Nat :=
  let c0_i32_509 : BitVec 32 := 0#32
  let c9_i32_507 : BitVec 32 := 9#32
  let c1_i32_508 : BitVec 32 := 1#32
  let v809 : BitVec 32 := Scalar.muli c9_i32_507 c1_i32_508
  let v810 : BitVec 32 := Scalar.addi c0_i32_509 v809
  v810.toNat
def k0_cond54 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_94 : BitVec 32 := 10#32
  let v195 : BitVec 1 := Scalar.cmpi .ne v2 c10_i32_94
  let v196 : BitVec 32 := Scalar.extui v195
  let c0_i32_95 : BitVec 32 := 0#32
  let v197 : BitVec 1 := Scalar.cmpi .ne v196 c0_i32_95
  v197

def k0_off21 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off22 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_510 : BitVec 32 := 0#32
  let c0_i32_511 : BitVec 32 := 0#32
  ![v2.toNat, 0, 0]
def k0_dev43 : Nat :=
  let c0_i32_509 : BitVec 32 := 0#32
  let c10_i32_507 : BitVec 32 := 10#32
  let c1_i32_508 : BitVec 32 := 1#32
  let v809 : BitVec 32 := Scalar.muli c10_i32_507 c1_i32_508
  let v810 : BitVec 32 := Scalar.addi c0_i32_509 v809
  v810.toNat
def k0_cond56 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_98 : BitVec 32 := 11#32
  let v201 : BitVec 1 := Scalar.cmpi .ne v2 c11_i32_98
  let v202 : BitVec 32 := Scalar.extui v201
  let c0_i32_99 : BitVec 32 := 0#32
  let v203 : BitVec 1 := Scalar.cmpi .ne v202 c0_i32_99
  v203

def k0_off23 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off24 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_510 : BitVec 32 := 0#32
  let c0_i32_511 : BitVec 32 := 0#32
  ![v2.toNat, 0, 0]
def k0_dev44 : Nat :=
  let c0_i32_509 : BitVec 32 := 0#32
  let c11_i32_507 : BitVec 32 := 11#32
  let c1_i32_508 : BitVec 32 := 1#32
  let v809 : BitVec 32 := Scalar.muli c11_i32_507 c1_i32_508
  let v810 : BitVec 32 := Scalar.addi c0_i32_509 v809
  v810.toNat
def k0_cond58 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_102 : BitVec 32 := 12#32
  let v207 : BitVec 1 := Scalar.cmpi .ne v2 c12_i32_102
  let v208 : BitVec 32 := Scalar.extui v207
  let c0_i32_103 : BitVec 32 := 0#32
  let v209 : BitVec 1 := Scalar.cmpi .ne v208 c0_i32_103
  v209

def k0_off25 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off26 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_510 : BitVec 32 := 0#32
  let c0_i32_511 : BitVec 32 := 0#32
  ![v2.toNat, 0, 0]
def k0_dev45 : Nat :=
  let c0_i32_509 : BitVec 32 := 0#32
  let c12_i32_507 : BitVec 32 := 12#32
  let c1_i32_508 : BitVec 32 := 1#32
  let v809 : BitVec 32 := Scalar.muli c12_i32_507 c1_i32_508
  let v810 : BitVec 32 := Scalar.addi c0_i32_509 v809
  v810.toNat
def k0_cond60 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_106 : BitVec 32 := 13#32
  let v213 : BitVec 1 := Scalar.cmpi .ne v2 c13_i32_106
  let v214 : BitVec 32 := Scalar.extui v213
  let c0_i32_107 : BitVec 32 := 0#32
  let v215 : BitVec 1 := Scalar.cmpi .ne v214 c0_i32_107
  v215

def k0_off27 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off28 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_510 : BitVec 32 := 0#32
  let c0_i32_511 : BitVec 32 := 0#32
  ![v2.toNat, 0, 0]
def k0_dev46 : Nat :=
  let c0_i32_509 : BitVec 32 := 0#32
  let c13_i32_507 : BitVec 32 := 13#32
  let c1_i32_508 : BitVec 32 := 1#32
  let v809 : BitVec 32 := Scalar.muli c13_i32_507 c1_i32_508
  let v810 : BitVec 32 := Scalar.addi c0_i32_509 v809
  v810.toNat
def k0_cond62 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_110 : BitVec 32 := 14#32
  let v219 : BitVec 1 := Scalar.cmpi .ne v2 c14_i32_110
  let v220 : BitVec 32 := Scalar.extui v219
  let c0_i32_111 : BitVec 32 := 0#32
  let v221 : BitVec 1 := Scalar.cmpi .ne v220 c0_i32_111
  v221

def k0_off29 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off30 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_510 : BitVec 32 := 0#32
  let c0_i32_511 : BitVec 32 := 0#32
  ![v2.toNat, 0, 0]
def k0_dev47 : Nat :=
  let c0_i32_509 : BitVec 32 := 0#32
  let c14_i32_507 : BitVec 32 := 14#32
  let c1_i32_508 : BitVec 32 := 1#32
  let v809 : BitVec 32 := Scalar.muli c14_i32_507 c1_i32_508
  let v810 : BitVec 32 := Scalar.addi c0_i32_509 v809
  v810.toNat
def k0_cond64 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_114 : BitVec 32 := 15#32
  let v225 : BitVec 1 := Scalar.cmpi .ne v2 c15_i32_114
  let v226 : BitVec 32 := Scalar.extui v225
  let c0_i32_115 : BitVec 32 := 0#32
  let v227 : BitVec 1 := Scalar.cmpi .ne v226 c0_i32_115
  v227

def k0_off31 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off32 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_510 : BitVec 32 := 0#32
  let c0_i32_511 : BitVec 32 := 0#32
  ![v2.toNat, 0, 0]
def k0_dev48 : Nat :=
  let c0_i32_509 : BitVec 32 := 0#32
  let c15_i32_507 : BitVec 32 := 15#32
  let c1_i32_508 : BitVec 32 := 1#32
  let v809 : BitVec 32 := Scalar.muli c15_i32_507 c1_i32_508
  let v810 : BitVec 32 := Scalar.addi c0_i32_509 v809
  v810.toNat
def k0_cond66 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_118 : BitVec 32 := 16#32
  let v231 : BitVec 1 := Scalar.cmpi .ne v2 c16_i32_118
  let v232 : BitVec 32 := Scalar.extui v231
  let c0_i32_119 : BitVec 32 := 0#32
  let v233 : BitVec 1 := Scalar.cmpi .ne v232 c0_i32_119
  v233

def k0_off33 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off34 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_510 : BitVec 32 := 0#32
  let c0_i32_511 : BitVec 32 := 0#32
  ![v2.toNat, 0, 0]
def k0_dev49 : Nat :=
  let c0_i32_509 : BitVec 32 := 0#32
  let c16_i32_507 : BitVec 32 := 16#32
  let c1_i32_508 : BitVec 32 := 1#32
  let v809 : BitVec 32 := Scalar.muli c16_i32_507 c1_i32_508
  let v810 : BitVec 32 := Scalar.addi c0_i32_509 v809
  v810.toNat
def k0_cond68 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_122 : BitVec 32 := 17#32
  let v237 : BitVec 1 := Scalar.cmpi .ne v2 c17_i32_122
  let v238 : BitVec 32 := Scalar.extui v237
  let c0_i32_123 : BitVec 32 := 0#32
  let v239 : BitVec 1 := Scalar.cmpi .ne v238 c0_i32_123
  v239

def k0_off35 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off36 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_510 : BitVec 32 := 0#32
  let c0_i32_511 : BitVec 32 := 0#32
  ![v2.toNat, 0, 0]
def k0_dev50 : Nat :=
  let c0_i32_509 : BitVec 32 := 0#32
  let c17_i32_507 : BitVec 32 := 17#32
  let c1_i32_508 : BitVec 32 := 1#32
  let v809 : BitVec 32 := Scalar.muli c17_i32_507 c1_i32_508
  let v810 : BitVec 32 := Scalar.addi c0_i32_509 v809
  v810.toNat
def k0_cond70 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_126 : BitVec 32 := 18#32
  let v243 : BitVec 1 := Scalar.cmpi .ne v2 c18_i32_126
  let v244 : BitVec 32 := Scalar.extui v243
  let c0_i32_127 : BitVec 32 := 0#32
  let v245 : BitVec 1 := Scalar.cmpi .ne v244 c0_i32_127
  v245

def k0_off37 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off38 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_510 : BitVec 32 := 0#32
  let c0_i32_511 : BitVec 32 := 0#32
  ![v2.toNat, 0, 0]
def k0_dev51 : Nat :=
  let c0_i32_509 : BitVec 32 := 0#32
  let c18_i32_507 : BitVec 32 := 18#32
  let c1_i32_508 : BitVec 32 := 1#32
  let v809 : BitVec 32 := Scalar.muli c18_i32_507 c1_i32_508
  let v810 : BitVec 32 := Scalar.addi c0_i32_509 v809
  v810.toNat
def k0_cond72 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_130 : BitVec 32 := 19#32
  let v249 : BitVec 1 := Scalar.cmpi .ne v2 c19_i32_130
  let v250 : BitVec 32 := Scalar.extui v249
  let c0_i32_131 : BitVec 32 := 0#32
  let v251 : BitVec 1 := Scalar.cmpi .ne v250 c0_i32_131
  v251

def k0_off39 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off40 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_510 : BitVec 32 := 0#32
  let c0_i32_511 : BitVec 32 := 0#32
  ![v2.toNat, 0, 0]
def k0_dev52 : Nat :=
  let c0_i32_509 : BitVec 32 := 0#32
  let c19_i32_507 : BitVec 32 := 19#32
  let c1_i32_508 : BitVec 32 := 1#32
  let v809 : BitVec 32 := Scalar.muli c19_i32_507 c1_i32_508
  let v810 : BitVec 32 := Scalar.addi c0_i32_509 v809
  v810.toNat
def k0_cond74 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_134 : BitVec 32 := 20#32
  let v255 : BitVec 1 := Scalar.cmpi .ne v2 c20_i32_134
  let v256 : BitVec 32 := Scalar.extui v255
  let c0_i32_135 : BitVec 32 := 0#32
  let v257 : BitVec 1 := Scalar.cmpi .ne v256 c0_i32_135
  v257

def k0_off41 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off42 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_510 : BitVec 32 := 0#32
  let c0_i32_511 : BitVec 32 := 0#32
  ![v2.toNat, 0, 0]
def k0_dev53 : Nat :=
  let c0_i32_509 : BitVec 32 := 0#32
  let c20_i32_507 : BitVec 32 := 20#32
  let c1_i32_508 : BitVec 32 := 1#32
  let v809 : BitVec 32 := Scalar.muli c20_i32_507 c1_i32_508
  let v810 : BitVec 32 := Scalar.addi c0_i32_509 v809
  v810.toNat
def k0_cond76 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_138 : BitVec 32 := 21#32
  let v261 : BitVec 1 := Scalar.cmpi .ne v2 c21_i32_138
  let v262 : BitVec 32 := Scalar.extui v261
  let c0_i32_139 : BitVec 32 := 0#32
  let v263 : BitVec 1 := Scalar.cmpi .ne v262 c0_i32_139
  v263

def k0_off43 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off44 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_510 : BitVec 32 := 0#32
  let c0_i32_511 : BitVec 32 := 0#32
  ![v2.toNat, 0, 0]
def k0_dev54 : Nat :=
  let c0_i32_509 : BitVec 32 := 0#32
  let c21_i32_507 : BitVec 32 := 21#32
  let c1_i32_508 : BitVec 32 := 1#32
  let v809 : BitVec 32 := Scalar.muli c21_i32_507 c1_i32_508
  let v810 : BitVec 32 := Scalar.addi c0_i32_509 v809
  v810.toNat
def k0_cond78 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_142 : BitVec 32 := 22#32
  let v267 : BitVec 1 := Scalar.cmpi .ne v2 c22_i32_142
  let v268 : BitVec 32 := Scalar.extui v267
  let c0_i32_143 : BitVec 32 := 0#32
  let v269 : BitVec 1 := Scalar.cmpi .ne v268 c0_i32_143
  v269

def k0_off45 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off46 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_510 : BitVec 32 := 0#32
  let c0_i32_511 : BitVec 32 := 0#32
  ![v2.toNat, 0, 0]
def k0_dev55 : Nat :=
  let c0_i32_509 : BitVec 32 := 0#32
  let c22_i32_507 : BitVec 32 := 22#32
  let c1_i32_508 : BitVec 32 := 1#32
  let v809 : BitVec 32 := Scalar.muli c22_i32_507 c1_i32_508
  let v810 : BitVec 32 := Scalar.addi c0_i32_509 v809
  v810.toNat
def k0_cond80 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_146 : BitVec 32 := 23#32
  let v273 : BitVec 1 := Scalar.cmpi .ne v2 c23_i32_146
  let v274 : BitVec 32 := Scalar.extui v273
  let c0_i32_147 : BitVec 32 := 0#32
  let v275 : BitVec 1 := Scalar.cmpi .ne v274 c0_i32_147
  v275

def k0_off47 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off48 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_510 : BitVec 32 := 0#32
  let c0_i32_511 : BitVec 32 := 0#32
  ![v2.toNat, 0, 0]
def k0_dev56 : Nat :=
  let c0_i32_509 : BitVec 32 := 0#32
  let c23_i32_507 : BitVec 32 := 23#32
  let c1_i32_508 : BitVec 32 := 1#32
  let v809 : BitVec 32 := Scalar.muli c23_i32_507 c1_i32_508
  let v810 : BitVec 32 := Scalar.addi c0_i32_509 v809
  v810.toNat
def k0_cond82 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_150 : BitVec 32 := 24#32
  let v279 : BitVec 1 := Scalar.cmpi .ne v2 c24_i32_150
  let v280 : BitVec 32 := Scalar.extui v279
  let c0_i32_151 : BitVec 32 := 0#32
  let v281 : BitVec 1 := Scalar.cmpi .ne v280 c0_i32_151
  v281

def k0_off49 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off50 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_510 : BitVec 32 := 0#32
  let c0_i32_511 : BitVec 32 := 0#32
  ![v2.toNat, 0, 0]
def k0_dev57 : Nat :=
  let c0_i32_509 : BitVec 32 := 0#32
  let c24_i32_507 : BitVec 32 := 24#32
  let c1_i32_508 : BitVec 32 := 1#32
  let v809 : BitVec 32 := Scalar.muli c24_i32_507 c1_i32_508
  let v810 : BitVec 32 := Scalar.addi c0_i32_509 v809
  v810.toNat
def k0_cond84 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_154 : BitVec 32 := 25#32
  let v285 : BitVec 1 := Scalar.cmpi .ne v2 c25_i32_154
  let v286 : BitVec 32 := Scalar.extui v285
  let c0_i32_155 : BitVec 32 := 0#32
  let v287 : BitVec 1 := Scalar.cmpi .ne v286 c0_i32_155
  v287

def k0_off51 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off52 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_510 : BitVec 32 := 0#32
  let c0_i32_511 : BitVec 32 := 0#32
  ![v2.toNat, 0, 0]
def k0_dev58 : Nat :=
  let c0_i32_509 : BitVec 32 := 0#32
  let c25_i32_507 : BitVec 32 := 25#32
  let c1_i32_508 : BitVec 32 := 1#32
  let v809 : BitVec 32 := Scalar.muli c25_i32_507 c1_i32_508
  let v810 : BitVec 32 := Scalar.addi c0_i32_509 v809
  v810.toNat
def k0_cond86 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_158 : BitVec 32 := 26#32
  let v291 : BitVec 1 := Scalar.cmpi .ne v2 c26_i32_158
  let v292 : BitVec 32 := Scalar.extui v291
  let c0_i32_159 : BitVec 32 := 0#32
  let v293 : BitVec 1 := Scalar.cmpi .ne v292 c0_i32_159
  v293

def k0_off53 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off54 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_510 : BitVec 32 := 0#32
  let c0_i32_511 : BitVec 32 := 0#32
  ![v2.toNat, 0, 0]
def k0_dev59 : Nat :=
  let c0_i32_509 : BitVec 32 := 0#32
  let c26_i32_507 : BitVec 32 := 26#32
  let c1_i32_508 : BitVec 32 := 1#32
  let v809 : BitVec 32 := Scalar.muli c26_i32_507 c1_i32_508
  let v810 : BitVec 32 := Scalar.addi c0_i32_509 v809
  v810.toNat
def k0_cond88 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_162 : BitVec 32 := 27#32
  let v297 : BitVec 1 := Scalar.cmpi .ne v2 c27_i32_162
  let v298 : BitVec 32 := Scalar.extui v297
  let c0_i32_163 : BitVec 32 := 0#32
  let v299 : BitVec 1 := Scalar.cmpi .ne v298 c0_i32_163
  v299

def k0_off55 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off56 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_510 : BitVec 32 := 0#32
  let c0_i32_511 : BitVec 32 := 0#32
  ![v2.toNat, 0, 0]
def k0_dev60 : Nat :=
  let c0_i32_509 : BitVec 32 := 0#32
  let c27_i32_507 : BitVec 32 := 27#32
  let c1_i32_508 : BitVec 32 := 1#32
  let v809 : BitVec 32 := Scalar.muli c27_i32_507 c1_i32_508
  let v810 : BitVec 32 := Scalar.addi c0_i32_509 v809
  v810.toNat
def k0_cond90 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_166 : BitVec 32 := 28#32
  let v303 : BitVec 1 := Scalar.cmpi .ne v2 c28_i32_166
  let v304 : BitVec 32 := Scalar.extui v303
  let c0_i32_167 : BitVec 32 := 0#32
  let v305 : BitVec 1 := Scalar.cmpi .ne v304 c0_i32_167
  v305

def k0_off57 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off58 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_510 : BitVec 32 := 0#32
  let c0_i32_511 : BitVec 32 := 0#32
  ![v2.toNat, 0, 0]
def k0_dev61 : Nat :=
  let c0_i32_509 : BitVec 32 := 0#32
  let c28_i32_507 : BitVec 32 := 28#32
  let c1_i32_508 : BitVec 32 := 1#32
  let v809 : BitVec 32 := Scalar.muli c28_i32_507 c1_i32_508
  let v810 : BitVec 32 := Scalar.addi c0_i32_509 v809
  v810.toNat
def k0_cond92 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_170 : BitVec 32 := 29#32
  let v309 : BitVec 1 := Scalar.cmpi .ne v2 c29_i32_170
  let v310 : BitVec 32 := Scalar.extui v309
  let c0_i32_171 : BitVec 32 := 0#32
  let v311 : BitVec 1 := Scalar.cmpi .ne v310 c0_i32_171
  v311

def k0_off59 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off60 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_510 : BitVec 32 := 0#32
  let c0_i32_511 : BitVec 32 := 0#32
  ![v2.toNat, 0, 0]
def k0_dev62 : Nat :=
  let c0_i32_509 : BitVec 32 := 0#32
  let c29_i32_507 : BitVec 32 := 29#32
  let c1_i32_508 : BitVec 32 := 1#32
  let v809 : BitVec 32 := Scalar.muli c29_i32_507 c1_i32_508
  let v810 : BitVec 32 := Scalar.addi c0_i32_509 v809
  v810.toNat
def k0_cond94 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_174 : BitVec 32 := 30#32
  let v315 : BitVec 1 := Scalar.cmpi .ne v2 c30_i32_174
  let v316 : BitVec 32 := Scalar.extui v315
  let c0_i32_175 : BitVec 32 := 0#32
  let v317 : BitVec 1 := Scalar.cmpi .ne v316 c0_i32_175
  v317

def k0_off61 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off62 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_510 : BitVec 32 := 0#32
  let c0_i32_511 : BitVec 32 := 0#32
  ![v2.toNat, 0, 0]
def k0_dev63 : Nat :=
  let c0_i32_509 : BitVec 32 := 0#32
  let c30_i32_507 : BitVec 32 := 30#32
  let c1_i32_508 : BitVec 32 := 1#32
  let v809 : BitVec 32 := Scalar.muli c30_i32_507 c1_i32_508
  let v810 : BitVec 32 := Scalar.addi c0_i32_509 v809
  v810.toNat
def k0_cond96 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_178 : BitVec 32 := 31#32
  let v321 : BitVec 1 := Scalar.cmpi .ne v2 c31_i32_178
  let v322 : BitVec 32 := Scalar.extui v321
  let c0_i32_179 : BitVec 32 := 0#32
  let v323 : BitVec 1 := Scalar.cmpi .ne v322 c0_i32_179
  v323

def k0_off63 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off64 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_510 : BitVec 32 := 0#32
  let c0_i32_511 : BitVec 32 := 0#32
  ![v2.toNat, 0, 0]
def k0_dev64 : Nat :=
  let c0_i32_509 : BitVec 32 := 0#32
  let c31_i32_507 : BitVec 32 := 31#32
  let c1_i32_508 : BitVec 32 := 1#32
  let v809 : BitVec 32 := Scalar.muli c31_i32_507 c1_i32_508
  let v810 : BitVec 32 := Scalar.addi c0_i32_509 v809
  v810.toNat
def k0_cond130 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_252 : BitVec 32 := 0#32
  let v428 : BitVec 1 := Scalar.cmpi .ne v2 c0_i32_252
  let v429 : BitVec 32 := Scalar.extui v428
  let c0_i32_253 : BitVec 32 := 0#32
  let v430 : BitVec 1 := Scalar.cmpi .ne v429 c0_i32_253
  v430

def k0_off65 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off66 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_506 : BitVec 32 := 8#32
  let v809 : BitVec 32 := Scalar.muli v2 c8_i32_506
  let c0_i32_511 : BitVec 32 := 0#32
  ![v809.toNat, 0]
def k0_dev65 : Nat :=
  let c0_i32_510 : BitVec 32 := 0#32
  let c0_i32_508 : BitVec 32 := 0#32
  let c1_i32_509 : BitVec 32 := 1#32
  let v810 : BitVec 32 := Scalar.muli c0_i32_508 c1_i32_509
  let v811 : BitVec 32 := Scalar.addi c0_i32_510 v810
  v811.toNat
def k0_cond132 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_256 : BitVec 32 := 1#32
  let v434 : BitVec 1 := Scalar.cmpi .ne v2 c1_i32_256
  let v435 : BitVec 32 := Scalar.extui v434
  let c0_i32_257 : BitVec 32 := 0#32
  let v436 : BitVec 1 := Scalar.cmpi .ne v435 c0_i32_257
  v436

def k0_off67 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off68 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_506 : BitVec 32 := 8#32
  let v809 : BitVec 32 := Scalar.muli v2 c8_i32_506
  let c0_i32_511 : BitVec 32 := 0#32
  ![v809.toNat, 0]
def k0_dev66 : Nat :=
  let c0_i32_510 : BitVec 32 := 0#32
  let c1_i32_508 : BitVec 32 := 1#32
  let c1_i32_509 : BitVec 32 := 1#32
  let v810 : BitVec 32 := Scalar.muli c1_i32_508 c1_i32_509
  let v811 : BitVec 32 := Scalar.addi c0_i32_510 v810
  v811.toNat
def k0_cond134 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_260 : BitVec 32 := 2#32
  let v440 : BitVec 1 := Scalar.cmpi .ne v2 c2_i32_260
  let v441 : BitVec 32 := Scalar.extui v440
  let c0_i32_261 : BitVec 32 := 0#32
  let v442 : BitVec 1 := Scalar.cmpi .ne v441 c0_i32_261
  v442

def k0_off69 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off70 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_506 : BitVec 32 := 8#32
  let v809 : BitVec 32 := Scalar.muli v2 c8_i32_506
  let c0_i32_511 : BitVec 32 := 0#32
  ![v809.toNat, 0]
def k0_dev67 : Nat :=
  let c0_i32_510 : BitVec 32 := 0#32
  let c2_i32_508 : BitVec 32 := 2#32
  let c1_i32_509 : BitVec 32 := 1#32
  let v810 : BitVec 32 := Scalar.muli c2_i32_508 c1_i32_509
  let v811 : BitVec 32 := Scalar.addi c0_i32_510 v810
  v811.toNat
def k0_cond136 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_264 : BitVec 32 := 3#32
  let v446 : BitVec 1 := Scalar.cmpi .ne v2 c3_i32_264
  let v447 : BitVec 32 := Scalar.extui v446
  let c0_i32_265 : BitVec 32 := 0#32
  let v448 : BitVec 1 := Scalar.cmpi .ne v447 c0_i32_265
  v448

def k0_off71 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off72 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_506 : BitVec 32 := 8#32
  let v809 : BitVec 32 := Scalar.muli v2 c8_i32_506
  let c0_i32_511 : BitVec 32 := 0#32
  ![v809.toNat, 0]
def k0_dev68 : Nat :=
  let c0_i32_510 : BitVec 32 := 0#32
  let c3_i32_508 : BitVec 32 := 3#32
  let c1_i32_509 : BitVec 32 := 1#32
  let v810 : BitVec 32 := Scalar.muli c3_i32_508 c1_i32_509
  let v811 : BitVec 32 := Scalar.addi c0_i32_510 v810
  v811.toNat
def k0_cond138 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_268 : BitVec 32 := 4#32
  let v452 : BitVec 1 := Scalar.cmpi .ne v2 c4_i32_268
  let v453 : BitVec 32 := Scalar.extui v452
  let c0_i32_269 : BitVec 32 := 0#32
  let v454 : BitVec 1 := Scalar.cmpi .ne v453 c0_i32_269
  v454

def k0_off73 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off74 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_506 : BitVec 32 := 8#32
  let v809 : BitVec 32 := Scalar.muli v2 c8_i32_506
  let c0_i32_511 : BitVec 32 := 0#32
  ![v809.toNat, 0]
def k0_dev69 : Nat :=
  let c0_i32_510 : BitVec 32 := 0#32
  let c4_i32_508 : BitVec 32 := 4#32
  let c1_i32_509 : BitVec 32 := 1#32
  let v810 : BitVec 32 := Scalar.muli c4_i32_508 c1_i32_509
  let v811 : BitVec 32 := Scalar.addi c0_i32_510 v810
  v811.toNat
def k0_cond140 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_272 : BitVec 32 := 5#32
  let v458 : BitVec 1 := Scalar.cmpi .ne v2 c5_i32_272
  let v459 : BitVec 32 := Scalar.extui v458
  let c0_i32_273 : BitVec 32 := 0#32
  let v460 : BitVec 1 := Scalar.cmpi .ne v459 c0_i32_273
  v460

def k0_off75 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off76 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_506 : BitVec 32 := 8#32
  let v809 : BitVec 32 := Scalar.muli v2 c8_i32_506
  let c0_i32_511 : BitVec 32 := 0#32
  ![v809.toNat, 0]
def k0_dev70 : Nat :=
  let c0_i32_510 : BitVec 32 := 0#32
  let c5_i32_508 : BitVec 32 := 5#32
  let c1_i32_509 : BitVec 32 := 1#32
  let v810 : BitVec 32 := Scalar.muli c5_i32_508 c1_i32_509
  let v811 : BitVec 32 := Scalar.addi c0_i32_510 v810
  v811.toNat
def k0_cond142 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_276 : BitVec 32 := 6#32
  let v464 : BitVec 1 := Scalar.cmpi .ne v2 c6_i32_276
  let v465 : BitVec 32 := Scalar.extui v464
  let c0_i32_277 : BitVec 32 := 0#32
  let v466 : BitVec 1 := Scalar.cmpi .ne v465 c0_i32_277
  v466

def k0_off77 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off78 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_506 : BitVec 32 := 8#32
  let v809 : BitVec 32 := Scalar.muli v2 c8_i32_506
  let c0_i32_511 : BitVec 32 := 0#32
  ![v809.toNat, 0]
def k0_dev71 : Nat :=
  let c0_i32_510 : BitVec 32 := 0#32
  let c6_i32_508 : BitVec 32 := 6#32
  let c1_i32_509 : BitVec 32 := 1#32
  let v810 : BitVec 32 := Scalar.muli c6_i32_508 c1_i32_509
  let v811 : BitVec 32 := Scalar.addi c0_i32_510 v810
  v811.toNat
def k0_cond144 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_280 : BitVec 32 := 7#32
  let v470 : BitVec 1 := Scalar.cmpi .ne v2 c7_i32_280
  let v471 : BitVec 32 := Scalar.extui v470
  let c0_i32_281 : BitVec 32 := 0#32
  let v472 : BitVec 1 := Scalar.cmpi .ne v471 c0_i32_281
  v472

def k0_off79 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off80 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_506 : BitVec 32 := 8#32
  let v809 : BitVec 32 := Scalar.muli v2 c8_i32_506
  let c0_i32_511 : BitVec 32 := 0#32
  ![v809.toNat, 0]
def k0_dev72 : Nat :=
  let c0_i32_510 : BitVec 32 := 0#32
  let c7_i32_508 : BitVec 32 := 7#32
  let c1_i32_509 : BitVec 32 := 1#32
  let v810 : BitVec 32 := Scalar.muli c7_i32_508 c1_i32_509
  let v811 : BitVec 32 := Scalar.addi c0_i32_510 v810
  v811.toNat
def k0_cond146 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_284 : BitVec 32 := 8#32
  let v476 : BitVec 1 := Scalar.cmpi .ne v2 c8_i32_284
  let v477 : BitVec 32 := Scalar.extui v476
  let c0_i32_285 : BitVec 32 := 0#32
  let v478 : BitVec 1 := Scalar.cmpi .ne v477 c0_i32_285
  v478

def k0_off81 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off82 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_506 : BitVec 32 := 8#32
  let v809 : BitVec 32 := Scalar.muli v2 c8_i32_506
  let c0_i32_511 : BitVec 32 := 0#32
  ![v809.toNat, 0]
def k0_dev73 : Nat :=
  let c0_i32_510 : BitVec 32 := 0#32
  let c8_i32_508 : BitVec 32 := 8#32
  let c1_i32_509 : BitVec 32 := 1#32
  let v810 : BitVec 32 := Scalar.muli c8_i32_508 c1_i32_509
  let v811 : BitVec 32 := Scalar.addi c0_i32_510 v810
  v811.toNat
def k0_cond148 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_288 : BitVec 32 := 9#32
  let v482 : BitVec 1 := Scalar.cmpi .ne v2 c9_i32_288
  let v483 : BitVec 32 := Scalar.extui v482
  let c0_i32_289 : BitVec 32 := 0#32
  let v484 : BitVec 1 := Scalar.cmpi .ne v483 c0_i32_289
  v484

def k0_off83 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off84 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_506 : BitVec 32 := 8#32
  let v809 : BitVec 32 := Scalar.muli v2 c8_i32_506
  let c0_i32_511 : BitVec 32 := 0#32
  ![v809.toNat, 0]
def k0_dev74 : Nat :=
  let c0_i32_510 : BitVec 32 := 0#32
  let c9_i32_508 : BitVec 32 := 9#32
  let c1_i32_509 : BitVec 32 := 1#32
  let v810 : BitVec 32 := Scalar.muli c9_i32_508 c1_i32_509
  let v811 : BitVec 32 := Scalar.addi c0_i32_510 v810
  v811.toNat
def k0_cond150 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_292 : BitVec 32 := 10#32
  let v488 : BitVec 1 := Scalar.cmpi .ne v2 c10_i32_292
  let v489 : BitVec 32 := Scalar.extui v488
  let c0_i32_293 : BitVec 32 := 0#32
  let v490 : BitVec 1 := Scalar.cmpi .ne v489 c0_i32_293
  v490

def k0_off85 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off86 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_506 : BitVec 32 := 8#32
  let v809 : BitVec 32 := Scalar.muli v2 c8_i32_506
  let c0_i32_511 : BitVec 32 := 0#32
  ![v809.toNat, 0]
def k0_dev75 : Nat :=
  let c0_i32_510 : BitVec 32 := 0#32
  let c10_i32_508 : BitVec 32 := 10#32
  let c1_i32_509 : BitVec 32 := 1#32
  let v810 : BitVec 32 := Scalar.muli c10_i32_508 c1_i32_509
  let v811 : BitVec 32 := Scalar.addi c0_i32_510 v810
  v811.toNat
def k0_cond152 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_296 : BitVec 32 := 11#32
  let v494 : BitVec 1 := Scalar.cmpi .ne v2 c11_i32_296
  let v495 : BitVec 32 := Scalar.extui v494
  let c0_i32_297 : BitVec 32 := 0#32
  let v496 : BitVec 1 := Scalar.cmpi .ne v495 c0_i32_297
  v496

def k0_off87 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off88 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_506 : BitVec 32 := 8#32
  let v809 : BitVec 32 := Scalar.muli v2 c8_i32_506
  let c0_i32_511 : BitVec 32 := 0#32
  ![v809.toNat, 0]
def k0_dev76 : Nat :=
  let c0_i32_510 : BitVec 32 := 0#32
  let c11_i32_508 : BitVec 32 := 11#32
  let c1_i32_509 : BitVec 32 := 1#32
  let v810 : BitVec 32 := Scalar.muli c11_i32_508 c1_i32_509
  let v811 : BitVec 32 := Scalar.addi c0_i32_510 v810
  v811.toNat
def k0_cond154 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_300 : BitVec 32 := 12#32
  let v500 : BitVec 1 := Scalar.cmpi .ne v2 c12_i32_300
  let v501 : BitVec 32 := Scalar.extui v500
  let c0_i32_301 : BitVec 32 := 0#32
  let v502 : BitVec 1 := Scalar.cmpi .ne v501 c0_i32_301
  v502

def k0_off89 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off90 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_506 : BitVec 32 := 8#32
  let v809 : BitVec 32 := Scalar.muli v2 c8_i32_506
  let c0_i32_511 : BitVec 32 := 0#32
  ![v809.toNat, 0]
def k0_dev77 : Nat :=
  let c0_i32_510 : BitVec 32 := 0#32
  let c12_i32_508 : BitVec 32 := 12#32
  let c1_i32_509 : BitVec 32 := 1#32
  let v810 : BitVec 32 := Scalar.muli c12_i32_508 c1_i32_509
  let v811 : BitVec 32 := Scalar.addi c0_i32_510 v810
  v811.toNat
def k0_cond156 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_304 : BitVec 32 := 13#32
  let v506 : BitVec 1 := Scalar.cmpi .ne v2 c13_i32_304
  let v507 : BitVec 32 := Scalar.extui v506
  let c0_i32_305 : BitVec 32 := 0#32
  let v508 : BitVec 1 := Scalar.cmpi .ne v507 c0_i32_305
  v508

def k0_off91 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off92 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_506 : BitVec 32 := 8#32
  let v809 : BitVec 32 := Scalar.muli v2 c8_i32_506
  let c0_i32_511 : BitVec 32 := 0#32
  ![v809.toNat, 0]
def k0_dev78 : Nat :=
  let c0_i32_510 : BitVec 32 := 0#32
  let c13_i32_508 : BitVec 32 := 13#32
  let c1_i32_509 : BitVec 32 := 1#32
  let v810 : BitVec 32 := Scalar.muli c13_i32_508 c1_i32_509
  let v811 : BitVec 32 := Scalar.addi c0_i32_510 v810
  v811.toNat
def k0_cond158 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_308 : BitVec 32 := 14#32
  let v512 : BitVec 1 := Scalar.cmpi .ne v2 c14_i32_308
  let v513 : BitVec 32 := Scalar.extui v512
  let c0_i32_309 : BitVec 32 := 0#32
  let v514 : BitVec 1 := Scalar.cmpi .ne v513 c0_i32_309
  v514

def k0_off93 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off94 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_506 : BitVec 32 := 8#32
  let v809 : BitVec 32 := Scalar.muli v2 c8_i32_506
  let c0_i32_511 : BitVec 32 := 0#32
  ![v809.toNat, 0]
def k0_dev79 : Nat :=
  let c0_i32_510 : BitVec 32 := 0#32
  let c14_i32_508 : BitVec 32 := 14#32
  let c1_i32_509 : BitVec 32 := 1#32
  let v810 : BitVec 32 := Scalar.muli c14_i32_508 c1_i32_509
  let v811 : BitVec 32 := Scalar.addi c0_i32_510 v810
  v811.toNat
def k0_cond160 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_312 : BitVec 32 := 15#32
  let v518 : BitVec 1 := Scalar.cmpi .ne v2 c15_i32_312
  let v519 : BitVec 32 := Scalar.extui v518
  let c0_i32_313 : BitVec 32 := 0#32
  let v520 : BitVec 1 := Scalar.cmpi .ne v519 c0_i32_313
  v520

def k0_off95 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off96 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_506 : BitVec 32 := 8#32
  let v809 : BitVec 32 := Scalar.muli v2 c8_i32_506
  let c0_i32_511 : BitVec 32 := 0#32
  ![v809.toNat, 0]
def k0_dev80 : Nat :=
  let c0_i32_510 : BitVec 32 := 0#32
  let c15_i32_508 : BitVec 32 := 15#32
  let c1_i32_509 : BitVec 32 := 1#32
  let v810 : BitVec 32 := Scalar.muli c15_i32_508 c1_i32_509
  let v811 : BitVec 32 := Scalar.addi c0_i32_510 v810
  v811.toNat
def k0_cond162 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_316 : BitVec 32 := 16#32
  let v524 : BitVec 1 := Scalar.cmpi .ne v2 c16_i32_316
  let v525 : BitVec 32 := Scalar.extui v524
  let c0_i32_317 : BitVec 32 := 0#32
  let v526 : BitVec 1 := Scalar.cmpi .ne v525 c0_i32_317
  v526

def k0_off97 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off98 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_506 : BitVec 32 := 8#32
  let v809 : BitVec 32 := Scalar.muli v2 c8_i32_506
  let c0_i32_511 : BitVec 32 := 0#32
  ![v809.toNat, 0]
def k0_dev81 : Nat :=
  let c0_i32_510 : BitVec 32 := 0#32
  let c16_i32_508 : BitVec 32 := 16#32
  let c1_i32_509 : BitVec 32 := 1#32
  let v810 : BitVec 32 := Scalar.muli c16_i32_508 c1_i32_509
  let v811 : BitVec 32 := Scalar.addi c0_i32_510 v810
  v811.toNat
def k0_cond164 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_320 : BitVec 32 := 17#32
  let v530 : BitVec 1 := Scalar.cmpi .ne v2 c17_i32_320
  let v531 : BitVec 32 := Scalar.extui v530
  let c0_i32_321 : BitVec 32 := 0#32
  let v532 : BitVec 1 := Scalar.cmpi .ne v531 c0_i32_321
  v532

def k0_off99 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off100 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_506 : BitVec 32 := 8#32
  let v809 : BitVec 32 := Scalar.muli v2 c8_i32_506
  let c0_i32_511 : BitVec 32 := 0#32
  ![v809.toNat, 0]
def k0_dev82 : Nat :=
  let c0_i32_510 : BitVec 32 := 0#32
  let c17_i32_508 : BitVec 32 := 17#32
  let c1_i32_509 : BitVec 32 := 1#32
  let v810 : BitVec 32 := Scalar.muli c17_i32_508 c1_i32_509
  let v811 : BitVec 32 := Scalar.addi c0_i32_510 v810
  v811.toNat
def k0_cond166 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_324 : BitVec 32 := 18#32
  let v536 : BitVec 1 := Scalar.cmpi .ne v2 c18_i32_324
  let v537 : BitVec 32 := Scalar.extui v536
  let c0_i32_325 : BitVec 32 := 0#32
  let v538 : BitVec 1 := Scalar.cmpi .ne v537 c0_i32_325
  v538

def k0_off101 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off102 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_506 : BitVec 32 := 8#32
  let v809 : BitVec 32 := Scalar.muli v2 c8_i32_506
  let c0_i32_511 : BitVec 32 := 0#32
  ![v809.toNat, 0]
def k0_dev83 : Nat :=
  let c0_i32_510 : BitVec 32 := 0#32
  let c18_i32_508 : BitVec 32 := 18#32
  let c1_i32_509 : BitVec 32 := 1#32
  let v810 : BitVec 32 := Scalar.muli c18_i32_508 c1_i32_509
  let v811 : BitVec 32 := Scalar.addi c0_i32_510 v810
  v811.toNat
def k0_cond168 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_328 : BitVec 32 := 19#32
  let v542 : BitVec 1 := Scalar.cmpi .ne v2 c19_i32_328
  let v543 : BitVec 32 := Scalar.extui v542
  let c0_i32_329 : BitVec 32 := 0#32
  let v544 : BitVec 1 := Scalar.cmpi .ne v543 c0_i32_329
  v544

def k0_off103 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off104 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_506 : BitVec 32 := 8#32
  let v809 : BitVec 32 := Scalar.muli v2 c8_i32_506
  let c0_i32_511 : BitVec 32 := 0#32
  ![v809.toNat, 0]
def k0_dev84 : Nat :=
  let c0_i32_510 : BitVec 32 := 0#32
  let c19_i32_508 : BitVec 32 := 19#32
  let c1_i32_509 : BitVec 32 := 1#32
  let v810 : BitVec 32 := Scalar.muli c19_i32_508 c1_i32_509
  let v811 : BitVec 32 := Scalar.addi c0_i32_510 v810
  v811.toNat
def k0_cond170 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_332 : BitVec 32 := 20#32
  let v548 : BitVec 1 := Scalar.cmpi .ne v2 c20_i32_332
  let v549 : BitVec 32 := Scalar.extui v548
  let c0_i32_333 : BitVec 32 := 0#32
  let v550 : BitVec 1 := Scalar.cmpi .ne v549 c0_i32_333
  v550

def k0_off105 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off106 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_506 : BitVec 32 := 8#32
  let v809 : BitVec 32 := Scalar.muli v2 c8_i32_506
  let c0_i32_511 : BitVec 32 := 0#32
  ![v809.toNat, 0]
def k0_dev85 : Nat :=
  let c0_i32_510 : BitVec 32 := 0#32
  let c20_i32_508 : BitVec 32 := 20#32
  let c1_i32_509 : BitVec 32 := 1#32
  let v810 : BitVec 32 := Scalar.muli c20_i32_508 c1_i32_509
  let v811 : BitVec 32 := Scalar.addi c0_i32_510 v810
  v811.toNat
def k0_cond172 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_336 : BitVec 32 := 21#32
  let v554 : BitVec 1 := Scalar.cmpi .ne v2 c21_i32_336
  let v555 : BitVec 32 := Scalar.extui v554
  let c0_i32_337 : BitVec 32 := 0#32
  let v556 : BitVec 1 := Scalar.cmpi .ne v555 c0_i32_337
  v556

def k0_off107 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off108 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_506 : BitVec 32 := 8#32
  let v809 : BitVec 32 := Scalar.muli v2 c8_i32_506
  let c0_i32_511 : BitVec 32 := 0#32
  ![v809.toNat, 0]
def k0_dev86 : Nat :=
  let c0_i32_510 : BitVec 32 := 0#32
  let c21_i32_508 : BitVec 32 := 21#32
  let c1_i32_509 : BitVec 32 := 1#32
  let v810 : BitVec 32 := Scalar.muli c21_i32_508 c1_i32_509
  let v811 : BitVec 32 := Scalar.addi c0_i32_510 v810
  v811.toNat
def k0_cond174 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_340 : BitVec 32 := 22#32
  let v560 : BitVec 1 := Scalar.cmpi .ne v2 c22_i32_340
  let v561 : BitVec 32 := Scalar.extui v560
  let c0_i32_341 : BitVec 32 := 0#32
  let v562 : BitVec 1 := Scalar.cmpi .ne v561 c0_i32_341
  v562

def k0_off109 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off110 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_506 : BitVec 32 := 8#32
  let v809 : BitVec 32 := Scalar.muli v2 c8_i32_506
  let c0_i32_511 : BitVec 32 := 0#32
  ![v809.toNat, 0]
def k0_dev87 : Nat :=
  let c0_i32_510 : BitVec 32 := 0#32
  let c22_i32_508 : BitVec 32 := 22#32
  let c1_i32_509 : BitVec 32 := 1#32
  let v810 : BitVec 32 := Scalar.muli c22_i32_508 c1_i32_509
  let v811 : BitVec 32 := Scalar.addi c0_i32_510 v810
  v811.toNat
def k0_cond176 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_344 : BitVec 32 := 23#32
  let v566 : BitVec 1 := Scalar.cmpi .ne v2 c23_i32_344
  let v567 : BitVec 32 := Scalar.extui v566
  let c0_i32_345 : BitVec 32 := 0#32
  let v568 : BitVec 1 := Scalar.cmpi .ne v567 c0_i32_345
  v568

def k0_off111 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off112 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_506 : BitVec 32 := 8#32
  let v809 : BitVec 32 := Scalar.muli v2 c8_i32_506
  let c0_i32_511 : BitVec 32 := 0#32
  ![v809.toNat, 0]
def k0_dev88 : Nat :=
  let c0_i32_510 : BitVec 32 := 0#32
  let c23_i32_508 : BitVec 32 := 23#32
  let c1_i32_509 : BitVec 32 := 1#32
  let v810 : BitVec 32 := Scalar.muli c23_i32_508 c1_i32_509
  let v811 : BitVec 32 := Scalar.addi c0_i32_510 v810
  v811.toNat
def k0_cond178 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_348 : BitVec 32 := 24#32
  let v572 : BitVec 1 := Scalar.cmpi .ne v2 c24_i32_348
  let v573 : BitVec 32 := Scalar.extui v572
  let c0_i32_349 : BitVec 32 := 0#32
  let v574 : BitVec 1 := Scalar.cmpi .ne v573 c0_i32_349
  v574

def k0_off113 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off114 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_506 : BitVec 32 := 8#32
  let v809 : BitVec 32 := Scalar.muli v2 c8_i32_506
  let c0_i32_511 : BitVec 32 := 0#32
  ![v809.toNat, 0]
def k0_dev89 : Nat :=
  let c0_i32_510 : BitVec 32 := 0#32
  let c24_i32_508 : BitVec 32 := 24#32
  let c1_i32_509 : BitVec 32 := 1#32
  let v810 : BitVec 32 := Scalar.muli c24_i32_508 c1_i32_509
  let v811 : BitVec 32 := Scalar.addi c0_i32_510 v810
  v811.toNat
def k0_cond180 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_352 : BitVec 32 := 25#32
  let v578 : BitVec 1 := Scalar.cmpi .ne v2 c25_i32_352
  let v579 : BitVec 32 := Scalar.extui v578
  let c0_i32_353 : BitVec 32 := 0#32
  let v580 : BitVec 1 := Scalar.cmpi .ne v579 c0_i32_353
  v580

def k0_off115 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off116 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_506 : BitVec 32 := 8#32
  let v809 : BitVec 32 := Scalar.muli v2 c8_i32_506
  let c0_i32_511 : BitVec 32 := 0#32
  ![v809.toNat, 0]
def k0_dev90 : Nat :=
  let c0_i32_510 : BitVec 32 := 0#32
  let c25_i32_508 : BitVec 32 := 25#32
  let c1_i32_509 : BitVec 32 := 1#32
  let v810 : BitVec 32 := Scalar.muli c25_i32_508 c1_i32_509
  let v811 : BitVec 32 := Scalar.addi c0_i32_510 v810
  v811.toNat
def k0_cond182 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_356 : BitVec 32 := 26#32
  let v584 : BitVec 1 := Scalar.cmpi .ne v2 c26_i32_356
  let v585 : BitVec 32 := Scalar.extui v584
  let c0_i32_357 : BitVec 32 := 0#32
  let v586 : BitVec 1 := Scalar.cmpi .ne v585 c0_i32_357
  v586

def k0_off117 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off118 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_506 : BitVec 32 := 8#32
  let v809 : BitVec 32 := Scalar.muli v2 c8_i32_506
  let c0_i32_511 : BitVec 32 := 0#32
  ![v809.toNat, 0]
def k0_dev91 : Nat :=
  let c0_i32_510 : BitVec 32 := 0#32
  let c26_i32_508 : BitVec 32 := 26#32
  let c1_i32_509 : BitVec 32 := 1#32
  let v810 : BitVec 32 := Scalar.muli c26_i32_508 c1_i32_509
  let v811 : BitVec 32 := Scalar.addi c0_i32_510 v810
  v811.toNat
def k0_cond184 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_360 : BitVec 32 := 27#32
  let v590 : BitVec 1 := Scalar.cmpi .ne v2 c27_i32_360
  let v591 : BitVec 32 := Scalar.extui v590
  let c0_i32_361 : BitVec 32 := 0#32
  let v592 : BitVec 1 := Scalar.cmpi .ne v591 c0_i32_361
  v592

def k0_off119 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off120 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_506 : BitVec 32 := 8#32
  let v809 : BitVec 32 := Scalar.muli v2 c8_i32_506
  let c0_i32_511 : BitVec 32 := 0#32
  ![v809.toNat, 0]
def k0_dev92 : Nat :=
  let c0_i32_510 : BitVec 32 := 0#32
  let c27_i32_508 : BitVec 32 := 27#32
  let c1_i32_509 : BitVec 32 := 1#32
  let v810 : BitVec 32 := Scalar.muli c27_i32_508 c1_i32_509
  let v811 : BitVec 32 := Scalar.addi c0_i32_510 v810
  v811.toNat
def k0_cond186 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_364 : BitVec 32 := 28#32
  let v596 : BitVec 1 := Scalar.cmpi .ne v2 c28_i32_364
  let v597 : BitVec 32 := Scalar.extui v596
  let c0_i32_365 : BitVec 32 := 0#32
  let v598 : BitVec 1 := Scalar.cmpi .ne v597 c0_i32_365
  v598

def k0_off121 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off122 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_506 : BitVec 32 := 8#32
  let v809 : BitVec 32 := Scalar.muli v2 c8_i32_506
  let c0_i32_511 : BitVec 32 := 0#32
  ![v809.toNat, 0]
def k0_dev93 : Nat :=
  let c0_i32_510 : BitVec 32 := 0#32
  let c28_i32_508 : BitVec 32 := 28#32
  let c1_i32_509 : BitVec 32 := 1#32
  let v810 : BitVec 32 := Scalar.muli c28_i32_508 c1_i32_509
  let v811 : BitVec 32 := Scalar.addi c0_i32_510 v810
  v811.toNat
def k0_cond188 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_368 : BitVec 32 := 29#32
  let v602 : BitVec 1 := Scalar.cmpi .ne v2 c29_i32_368
  let v603 : BitVec 32 := Scalar.extui v602
  let c0_i32_369 : BitVec 32 := 0#32
  let v604 : BitVec 1 := Scalar.cmpi .ne v603 c0_i32_369
  v604

def k0_off123 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off124 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_506 : BitVec 32 := 8#32
  let v809 : BitVec 32 := Scalar.muli v2 c8_i32_506
  let c0_i32_511 : BitVec 32 := 0#32
  ![v809.toNat, 0]
def k0_dev94 : Nat :=
  let c0_i32_510 : BitVec 32 := 0#32
  let c29_i32_508 : BitVec 32 := 29#32
  let c1_i32_509 : BitVec 32 := 1#32
  let v810 : BitVec 32 := Scalar.muli c29_i32_508 c1_i32_509
  let v811 : BitVec 32 := Scalar.addi c0_i32_510 v810
  v811.toNat
def k0_cond190 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_372 : BitVec 32 := 30#32
  let v608 : BitVec 1 := Scalar.cmpi .ne v2 c30_i32_372
  let v609 : BitVec 32 := Scalar.extui v608
  let c0_i32_373 : BitVec 32 := 0#32
  let v610 : BitVec 1 := Scalar.cmpi .ne v609 c0_i32_373
  v610

def k0_off125 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off126 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_506 : BitVec 32 := 8#32
  let v809 : BitVec 32 := Scalar.muli v2 c8_i32_506
  let c0_i32_511 : BitVec 32 := 0#32
  ![v809.toNat, 0]
def k0_dev95 : Nat :=
  let c0_i32_510 : BitVec 32 := 0#32
  let c30_i32_508 : BitVec 32 := 30#32
  let c1_i32_509 : BitVec 32 := 1#32
  let v810 : BitVec 32 := Scalar.muli c30_i32_508 c1_i32_509
  let v811 : BitVec 32 := Scalar.addi c0_i32_510 v810
  v811.toNat
def k0_cond192 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_376 : BitVec 32 := 31#32
  let v614 : BitVec 1 := Scalar.cmpi .ne v2 c31_i32_376
  let v615 : BitVec 32 := Scalar.extui v614
  let c0_i32_377 : BitVec 32 := 0#32
  let v616 : BitVec 1 := Scalar.cmpi .ne v615 c0_i32_377
  v616

def k0_off127 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off128 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_506 : BitVec 32 := 8#32
  let v809 : BitVec 32 := Scalar.muli v2 c8_i32_506
  let c0_i32_511 : BitVec 32 := 0#32
  ![v809.toNat, 0]
def k0_dev96 : Nat :=
  let c0_i32_510 : BitVec 32 := 0#32
  let c31_i32_508 : BitVec 32 := 31#32
  let c1_i32_509 : BitVec 32 := 1#32
  let v810 : BitVec 32 := Scalar.muli c31_i32_508 c1_i32_509
  let v811 : BitVec 32 := Scalar.addi c0_i32_510 v810
  v811.toNat
abbrev stage0_0 : Fin 1 → Memref sig .tc .vmem S256x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x1 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x128x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S256x128 : Shape := ⟨2, ![256, 128]⟩
abbrev S128x64 : Shape := ⟨2, ![128, 64]⟩
abbrev S256x1 : Shape := ⟨2, ![256, 1]⟩
abbrev S64x128x256 : Shape := ⟨3, ![64, 128, 256]⟩
abbrev S256 : Shape := ⟨1, ![256]⟩
abbrev S_ : Shape := ⟨0, ![]⟩
abbrev S256x128x256 : Shape := ⟨3, ![256, 128, 256]⟩
abbrev S256x256 : Shape := ⟨2, ![256, 256]⟩

abbrev nBuf : Space → Nat
  | .hbm => 36
  | .vmem => 0
  | .smem => 0
  | _ => 0

abbrev bufTy : (tb : Table) → Fin (tcTables nBuf tb) → BufTy
  | .hbm, ⟨0, _⟩ => ⟨S256x128, .f32⟩
  | .hbm, ⟨1, _⟩ => ⟨S128x64, .f32⟩
  | .hbm, ⟨2, _⟩ => ⟨S256x1, .i32⟩
  | .hbm, ⟨3, _⟩ => ⟨S64x128x256, .f32⟩
  | .hbm, ⟨4, _⟩ => ⟨S256, .i32⟩
  | .hbm, ⟨5, _⟩ => ⟨S_, .i32⟩
  | .hbm, ⟨6, _⟩ => ⟨S256, .i32⟩
  | .hbm, ⟨7, _⟩ => ⟨S256, .i1⟩
  | .hbm, ⟨8, _⟩ => ⟨S_, .i32⟩
  | .hbm, ⟨9, _⟩ => ⟨S256, .i32⟩
  | .hbm, ⟨10, _⟩ => ⟨S256, .i1⟩
  | .hbm, ⟨11, _⟩ => ⟨S256, .i1⟩
  | .hbm, ⟨12, _⟩ => ⟨S_, .i32⟩
  | .hbm, ⟨13, _⟩ => ⟨S_, .i32⟩
  | .hbm, ⟨14, _⟩ => ⟨S_, .i32⟩
  | .hbm, ⟨15, _⟩ => ⟨S256, .i32⟩
  | .hbm, ⟨16, _⟩ => ⟨S256, .i32⟩
  | .hbm, ⟨17, _⟩ => ⟨S_, .i32⟩
  | .hbm, ⟨18, _⟩ => ⟨S256, .i32⟩
  | .hbm, ⟨19, _⟩ => ⟨S256, .i32⟩
  | .hbm, ⟨20, _⟩ => ⟨S_, .i32⟩
  | .hbm, ⟨21, _⟩ => ⟨S256, .i32⟩
  | .hbm, ⟨22, _⟩ => ⟨S256, .i1⟩
  | .hbm, ⟨23, _⟩ => ⟨S_, .i32⟩
  | .hbm, ⟨24, _⟩ => ⟨S256, .i32⟩
  | .hbm, ⟨25, _⟩ => ⟨S256, .i32⟩
  | .hbm, ⟨26, _⟩ => ⟨S256, .i32⟩
  | .hbm, ⟨27, _⟩ => ⟨S256x1, .i32⟩
  | .hbm, ⟨28, _⟩ => ⟨S256x128x256, .f32⟩
  | .hbm, ⟨29, _⟩ => ⟨S256x256, .f32⟩
  | .hbm, ⟨30, _⟩ => ⟨S256x1, .i1⟩
  | .hbm, ⟨31, _⟩ => ⟨S_, .f32⟩
  | .hbm, ⟨32, _⟩ => ⟨S_, .f32⟩
  | .hbm, ⟨33, _⟩ => ⟨S256x256, .i1⟩
  | .hbm, ⟨34, _⟩ => ⟨S256x256, .f32⟩
  | .hbm, ⟨35, _⟩ => ⟨S256x256, .f32⟩
  | _, _ => ⟨S256x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_c_1 : Ref sig .tc := ⟨.hbm, 12, rfl⟩
abbrev main_c_2 : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_v6 : Ref sig .tc := ⟨.hbm, 19, rfl⟩
abbrev main_c_3 : Ref sig .tc := ⟨.hbm, 20, rfl⟩
abbrev main_v7 : Ref sig .tc := ⟨.hbm, 21, rfl⟩
abbrev main_v8 : Ref sig .tc := ⟨.hbm, 22, rfl⟩
abbrev main_c_4 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_cst : Ref sig .tc := ⟨.hbm, 31, rfl⟩
abbrev main_call1_v0 : Ref sig .tc := ⟨.hbm, 32, rfl⟩
abbrev main_call1_v1 : Ref sig .tc := ⟨.hbm, 33, rfl⟩
abbrev main_call1_v2 : Ref sig .tc := ⟨.hbm, 34, rfl⟩
abbrev main_v16 : Ref sig .tc := ⟨.hbm, 35, rfl⟩

abbrev nD : Nat := 1
abbrev τ : Topo := Topo.v7x

variable {F : FTy → Type} [FloatOps F]
-- ==== Proof.Cells.lean ====
/-
# The buffers in blocks, and the semaphore cells

The kernel on a device works on three buffers: the receive buffer (32 slots of 8 rows), the result (32 groups of 8
rows) and the accumulator (one block). This module names their views, says which entries each slot and each group of
rows holds, and splits a whole buffer into its 32 parts. It also names the semaphores: the barrier, and four families
of 32 transfer semaphores.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Tactic
public import Idealize.ShloMosaic.Lib.ViewIndex
public import Idealize.ShloMosaic.Lib.ShareLeaves

@[expose] public section

set_option maxRecDepth 16384

noncomputable section

namespace Cert.Moe

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The ghost state's algebra -/

/-- The protocol's ghost state: duties are named by devices. -/
abbrev UB : Type := URounds (GSem nD τ sig) (Dev nD)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## The memrefs -/

/-- The tokens, the routing, the expert weights, the result, the receive buffer, the accumulator. -/
abbrev xM : Memref sig .tc .vmem S256x128 .f32 := Memref.whole cc0_stg0_0
abbrev rM : Memref sig .tc .vmem S256x1 .i32 := Memref.whole cc0_stg1_0
abbrev wM : Memref sig .tc .vmem S2x128x256 .f32 := Memref.whole cc0_stg2_0
abbrev oM : Memref sig .tc .vmem S256x256 .f32 := Memref.whole cc0_stg3_0
abbrev bM : Memref sig .tc .vmem S32x8x256 .f32 := Memref.whole cc0_scratch0
abbrev aM : Memref sig .tc .vmem S8x256 .f32 := Memref.whole cc0_scratch1

theorem slot_inb (j : Dev nD) : ∀ a, (![j.val, 0, 0] : Fin 3 → ℕ) a + S1x8x256.size a ≤ S32x8x256.size a := by
  revert j; decide
theorem rows_inb (j : Dev nD) : ∀ a, (![8 * j.val, 0] : Fin 2 → ℕ) a + S8x256.size a ≤ S256x256.size a := by
  revert j; decide
theorem sem_inb (j : Dev nD) : ∀ a, (![j.val] : Fin 1 → ℕ) a + S1.size a ≤ S32.size a := by
  revert j; decide

/-- Slot `j` of the receive buffer as a rectangle, rows `8 j … 8 j + 7` of the result as a rectangle. -/
abbrev slotR (j : Dev nD) : Rect S32x8x256 := Rect.unit (s := S32x8x256) ![j.val, 0, 0] S1x8x256.size (slot_inb j)
abbrev rowsR (j : Dev nD) : Rect S256x256 := Rect.unit (s := S256x256) ![8 * j.val, 0] S8x256.size (rows_inb j)

/-- Slot `j` of the receive buffer, as a block of 8 rows. -/
abbrev slotM (j : Dev nD) : Memref sig .tc .vmem S8x256 .f32 :=
  (bM.slice (slotR j) (fun _ => rfl)).squeeze S8x256 squeezes_S1x8x256_S8x256
/-- Rows `8 j … 8 j + 7` of the result. -/
abbrev rowsM (j : Dev nD) : Memref sig .tc .vmem S8x256 .f32 := oM.slice (rowsR j) (fun _ => rfl)

theorem slot_set (j : Dev nD) : (slotM j).view.set = (slotR j).set :=
  (View.set_reshape _ _).trans (View.set_slice_whole _ _)
theorem rows_set (j : Dev nD) : (rowsM j).view.set = (rowsR j).set := View.set_slice_whole _ _
/-- The same entries through the rectangle a load or a store names. -/
theorem slot_access_set (j : Dev nD) : ((bM : Memref sig .tc .vmem S32x8x256 .f32).access (slotR j)).set = (slotR j).set := View.set_slice_whole _ _
theorem rows_access_set (j : Dev nD) : ((oM : Memref sig .tc .vmem S256x256 .f32).access (rowsR j)).set = (rowsR j).set := View.set_slice_whole _ _

theorem mem_slot (j : Dev nD) (i : S32x8x256.Idx) : i ∈ (slotR j).set ↔ (i 0).val = j.val := by
  have h1 : (i 1).val < 8 := (i 1).isLt
  have h2 : (i 2).val < 256 := (i 2).isLt
  rw [Rect.mem_set_unit]
  constructor
  · intro h
    have := h 0
    simp [S1x8x256] at this
    omega
  · intro h a
    match a with
    | 0 => simp [S1x8x256]; omega
    | 1 => simp [S1x8x256]; omega
    | 2 => simp [S1x8x256]; omega

theorem mem_rows (j : Dev nD) (i : S256x256.Idx) : i ∈ (rowsR j).set ↔ (i 0).val / 8 = j.val := by
  have h1 : (i 1).val < 256 := (i 1).isLt
  rw [Rect.mem_set_unit]
  constructor
  · intro h
    have := h 0
    simp [S8x256] at this
    omega
  · intro h a
    match a with
    | 0 => simp [S8x256]; omega
    | 1 => simp [S8x256]; omega

/-- The device whose slot an entry of the receive buffer lies in, and whose rows an entry of the result lies in. -/
def slotOf (i : S32x8x256.Idx) : Dev nD := ⟨(i 0).val, (i 0).isLt⟩
def rowsOf (i : S256x256.Idx) : Dev nD := ⟨(i 0).val / 8, by have : (i 0).val < 256 := (i 0).isLt; show _ < 32; omega⟩

theorem mem_slot' (j : Dev nD) (i : S32x8x256.Idx) : i ∈ (slotR j).set ↔ slotOf i = j :=
  (mem_slot j i).trans ⟨fun h => Fin.ext h, fun h => congrArg Fin.val h⟩
theorem mem_rows' (j : Dev nD) (i : S256x256.Idx) : i ∈ (rowsR j).set ↔ rowsOf i = j :=
  (mem_rows j i).trans ⟨fun h => Fin.ext h, fun h => congrArg Fin.val h⟩

/-- The 32 slots are disjoint and are the whole receive buffer; -/
theorem slot_disj : ∀ j ∈ (Finset.univ : Finset (Dev nD)), ∀ j' ∈ (Finset.univ : Finset (Dev nD)), j ≠ j' → Disjoint (slotR j).set (slotR j').set := by
  intro j _ j' _ hne
  rw [Finset.disjoint_left]
  intro i h h'
  exact hne (((mem_slot' j i).1 h).symm.trans ((mem_slot' j' i).1 h'))
theorem slot_cover : (Finset.univ : Finset (Dev nD)).biUnion (fun j => (slotR j).set) = (Finset.univ : Finset S32x8x256.Idx) := by
  ext i
  simp only [Finset.mem_biUnion, Finset.mem_univ, true_and, iff_true]
  exact ⟨slotOf i, (mem_slot' _ i).2 rfl⟩
/-- the 32 groups of rows are disjoint and are the whole result. -/
theorem rows_disj : ∀ j ∈ (Finset.univ : Finset (Dev nD)), ∀ j' ∈ (Finset.univ : Finset (Dev nD)), j ≠ j' → Disjoint (rowsR j).set (rowsR j').set := by
  intro j _ j' _ hne
  rw [Finset.disjoint_left]
  intro i h h'
  exact hne (((mem_rows' j i).1 h).symm.trans ((mem_rows' j' i).1 h'))
theorem rows_cover : (Finset.univ : Finset (Dev nD)).biUnion (fun j => (rowsR j).set) = (Finset.univ : Finset S256x256.Idx) := by
  ext i
  simp only [Finset.mem_biUnion, Finset.mem_univ, true_and, iff_true]
  exact ⟨rowsOf i, (mem_rows' _ i).2 rfl⟩

/-! ## What a device holds of the buffers -/

/-- Device `c`'s slot `j` holds what the buffer contents `f` say there; -/
def slotPts (c j : Dev nD) (f : Vec F S32x8x256 .f32) : sProp 𝕄 :=
  (c : Thread nD τ).loc cc0_scratch0 ↦[(slotR j).set]{fullShare} f
/-- device `c`'s rows `8 j … 8 j + 7` of the result hold what `f` says there; -/
def rowsPts (c j : Dev nD) (f : Vec F S256x256 .f32) : sProp 𝕄 :=
  (c : Thread nD τ).loc cc0_stg3_0 ↦[(rowsR j).set]{fullShare} f
/-- device `c`'s accumulator holds `f`, at share `q`. -/
def accPts (c : Dev nD) (q : PosShare TreeShare) (f : Vec F S8x256 .f32) : sProp 𝕄 :=
  (c : Thread nD τ).loc cc0_scratch1 ↦{q} f

instance slotPts_storable (c j : Dev nD) (f) : BI.Storable (upEmb : UEmb _ 𝕄) (slotPts (F := F) c j f) := by
  unfold slotPts; infer_instance
instance rowsPts_storable (c j : Dev nD) (f) : BI.Storable (upEmb : UEmb _ 𝕄) (rowsPts (F := F) c j f) := by
  unfold rowsPts; infer_instance
instance accPts_storable (c : Dev nD) (q) (f) : BI.Storable (upEmb : UEmb _ 𝕄) (accPts (F := F) c q f) := by
  unfold accPts; infer_instance

/-- Contents that agree on a slot are interchangeable there; -/
theorem slotPts_congr (c j : Dev nD) {f g : Vec F S32x8x256 .f32} (h : ∀ i ∈ (slotR j).set, f i = g i) :
    (slotPts c j f : sProp 𝕄) = slotPts c j g := by unfold slotPts; exact pointsTo_congr h
/-- likewise on a group of rows. -/
theorem rowsPts_congr (c j : Dev nD) {f g : Vec F S256x256 .f32} (h : ∀ i ∈ (rowsR j).set, f i = g i) :
    (rowsPts c j f : sProp 𝕄) = rowsPts c j g := by unfold rowsPts; exact pointsTo_congr h

/-- The whole receive buffer is its 32 slots; -/
theorem slots_split (c : Dev nD) (f : Vec F S32x8x256 .f32) :
    ((c : Thread nD τ).loc cc0_scratch0 ↦{fullShare} f : sProp 𝕄) = bigSep Finset.univ fun j => slotPts c j f := by
  unfold slotPts
  rw [← pointsTo_biUnion _ _ slot_disj, slot_cover]
/-- the whole result is its 32 groups of rows. -/
theorem rows_split (c : Dev nD) (f : Vec F S256x256 .f32) :
    ((c : Thread nD τ).loc cc0_stg3_0 ↦{fullShare} f : sProp 𝕄) = bigSep Finset.univ fun j => rowsPts c j f := by
  unfold rowsPts
  rw [← pointsTo_biUnion _ _ rows_disj, rows_cover]

/-! ## Entries of the parts -/

/-- Entry `k` of slot `j` is entry `(j, k 0, k 1)` of the receive buffer; -/
theorem slot_emb (j : Dev nD) (k : S8x256.Idx) : (((slotM j).view.emb k : S32x8x256.Idx) 0).val = j.val
    ∧ (((slotM j).view.emb k : S32x8x256.Idx) 1).val = (k 0).val ∧ (((slotM j).view.emb k : S32x8x256.Idx) 2).val = (k 1).val := by
  have e : (slotM j).view.emb k = (slotR j).emb (Shape.reshapeEquiv (squeezes_S1x8x256_S8x256).numel_eq k) := rfl
  have e' : Shape.reshapeEquiv (squeezes_S1x8x256_S8x256).numel_eq k = (Fin.cons ⟨0, Nat.one_pos⟩ k : S1x8x256.Idx) :=
    Shape.reshapeEquiv_cons_one (d := ![8, 256]) _ k
  rw [e, e']
  refine ⟨?_, ?_, ?_⟩
  · show j.val + 1 * 0 = j.val
    omega
  · show 0 + 1 * (k 0).val = (k 0).val
    omega
  · show 0 + 1 * (k 1).val = (k 1).val
    omega
/-- entry `k` of group `j` of rows is entry `(8 j + k 0, k 1)` of the result. -/
theorem rows_emb (j : Dev nD) (k : S8x256.Idx) : (((rowsM j).view.emb k : S256x256.Idx) 0).val = 8 * j.val + (k 0).val
    ∧ (((rowsM j).view.emb k : S256x256.Idx) 1).val = (k 1).val := by
  refine ⟨?_, ?_⟩
  · show 8 * j.val + 1 * (k 0).val = _
    omega
  · show 0 + 1 * (k 1).val = _
    omega

/-! ## The semaphores -/

/-- The runtime's barrier semaphore. -/
abbrev barS : Sem sig := (SemArray.scalar (sig.barrier 0 rfl) : Sems sig S_).sem
/-- The four families of transfer semaphores: sends and landings of the first exchange, sends and landings of the second. -/
abbrev dArr : Fin 4 → DmaSems sig S32 := ![cc0_scratch2, cc0_scratch3, cc0_scratch4, cc0_scratch5]
abbrev dsem (a : Fin 4) (j : Dev nD) : DmaSem sig :=
  (((dArr a).slice (Rect.unit (s := S32) ![j.val] S1.size (sem_inb j))).squeeze S_ squeezes_S1_S_).sem

theorem dsem_val : ∀ (a : Fin 4) (j : Dev nD), (dsem a j).val = 4 + 32 * a.val + j.val := by decide +kernel

/-- A device's cells: the barrier, or a transfer semaphore. -/
abbrev CK : Type := Option (Fin 4 × Dev nD)
/-- The semaphore a cell is on. -/
def csem : CK → SemLoc sig
  | none => .reg barS
  | some (a, j) => .dma (dsem a j)

theorem csem_inj : Function.Injective csem := by
  intro k k' h
  match k, k' with
  | none, none => rfl
  | none, some (a, j) => exact absurd h (by simp [csem])
  | some (a, j), none => exact absurd h (by simp [csem])
  | some (a, j), some (a', j') =>
    have h' : dsem a j = dsem a' j' := by simpa only [csem, SemLoc.dma.injEq] using h
    have h2 := congrArg Fin.val h'
    rw [dsem_val, dsem_val] at h2
    have hj : j.val < 32 := j.isLt
    have hj' : j'.val < 32 := j'.isLt
    have ea : a = a' := Fin.ext (by omega)
    have ej : j = j' := Fin.ext (by omega)
    rw [ea, ej]

abbrev barCell (c : Dev nD) : GSem nD τ sig := ((c : Thread nD τ), csem none)
abbrev dCell (c : Dev nD) (a : Fin 4) (j : Dev nD) : GSem nD τ sig := ((c : Thread nD τ), csem (some (a, j)))
abbrev kcell (ck : Dev nD × CK) : GSem nD τ sig := ((ck.1 : Thread nD τ), csem ck.2)

/-- Which cell a semaphore is, if it is one of the kernel's. -/
def kind (sm : SemLoc sig) : Option CK := Function.partialInv csem sm
theorem kind_csem (k : CK) : kind (csem k) = some k := Function.partialInv_left csem_inj k

/-- The credit of one block of 8 rows. -/
abbrev N : ℕ := (aM : Memref sig .tc .vmem S8x256 .f32).view.dmaCredit
theorem N_pos : 0 < N := View.dmaCredit_pos _ (by decide)

end Cert.Moe

end
-- ==== Proof.Values.lean ====
/-
# What the buffers hold

From the staged operands: each device's contribution (its two experts' outputs on the tokens routed to them), the
receive buffer once every device's block has landed, the accumulator after the sum over the slots, and the result once
every device's accumulator has landed. Each landing and each of the kernel's own stores writes what these say.
-/
module

public import proofs.«01_k».proof.Proof.Cells
public import Idealize.ShloMosaic.Lib.ValueLayout

@[expose] public section

set_option maxRecDepth 16384

noncomputable section

namespace Cert.Moe

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx

variable {F : FTy → Type} [FloatOps F]

variable (m : (ℓ : Loc nD τ sig) → Buf (Elt F) ℓ) (ρ : Dev nD → PrngReg)

/-- The memory at launch: the given contents, every semaphore at zero. -/
def s₀ : MemSt nD τ sig (Elt F) := ⟨m, fun _ => 0, ρ⟩

/-- The staged tokens, routing and expert weights of device `c`. -/
def xAt (c : Dev nD) : Vec F S256x128 .f32 := (win0_0.blk (0 : Fin 1)).view.read (Elt F) (m ((c : Thread nD τ).loc main_arg0))
def rAt (c : Dev nD) : Vec F S256x1 .i32 := (win0_1.blk (0 : Fin 1)).view.read (Elt F) (m ((c : Thread nD τ).loc main_arg2))
def wAt (c : Dev nD) : Vec F S2x128x256 .f32 := (win0_2.blk (0 : Fin 1)).view.read (Elt F) (m ((c : Thread nD τ).loc main_arg3))

/-- Device `c`'s expert number `e`'s weights, as the kernel loads them. -/
def w0At (c : Dev nD) : Vec F S1x128x256 .f32 :=
  wM.view.readAt (Elt F) (Rect.unit (s := S2x128x256) ![0, 0, 0] S1x128x256.size inb_S2x128x256_S1x128x256_0_0_0).toLoadRect (wAt m c)
def w1At (c : Dev nD) : Vec F S1x128x256 .f32 :=
  wM.view.readAt (Elt F) (Rect.unit (s := S2x128x256) ![1, 0, 0] S1x128x256.size inb_S2x128x256_S1x128x256_1_0_0).toLoadRect (wAt m c)

/-- The device's number as the kernel computes it. -/
abbrev devW (c : Dev nD) : BitVec 32 := Scalar.remsi (Scalar.divsi (Dev.word c) 1#32) 32#32

/-- Device `c`'s contribution: its experts' outputs, over all the tokens. -/
def contrib (c : Dev nD) : Vec F S256x256 .f32 :=
  k0_pay4 (k0_pay2 (devW c) (rAt m c) (xAt m c) (w0At m c)) (k0_pay3 (devW c) (rAt m c)) (xAt m c) (w1At m c)

/-- Row `r` of group `c` of 8 rows. -/
def rowIn (c : Dev nD) (r : Fin 8) : Fin 256 := ⟨8 * c.val + r.val, by have := c.isLt; have : c.val < 32 := c.isLt; omega⟩

/-- Device `c`'s receive buffer once all has landed: slot `j` holds rows `8 c … 8 c + 7` of device `j`'s contribution. -/
def rbufAt (c : Dev nD) : Vec F S32x8x256 .f32 :=
  fun i => contrib m (slotOf i) (ix2 (rowIn c (i 1)) (i 2 : Fin 256))

/-- Device `c`'s accumulator: the sum of its receive buffer's slots. -/
def accAt (c : Dev nD) : Vec F S8x256 .f32 := k0_pay38 (k0_pay37 (rbufAt m c))

/-- The result, the same on every device: rows `8 j … 8 j + 7` are device `j`'s accumulator. -/
def outAt : Vec F S256x256 .f32 :=
  fun i => accAt m (rowsOf i) (ix2 (⟨(i 0).val % 8, Nat.mod_lt _ (by decide)⟩ : Fin 8) (i 1 : Fin 256))

/-! ## What the stores and the landings write -/

theorem idx2_ext {a b : ℕ} {x y : (⟨2, ![a, b]⟩ : Shape).Idx} (h0 : (x 0).val = (y 0).val) (h1 : (x 1).val = (y 1).val) : x = y := by
  funext k
  apply Fin.ext
  match k with
  | 0 => exact h0
  | 1 => exact h1

/-- The entry of device `j`'s contribution that lands at entry `k` of slot `j` on device `c`. -/
theorem rbuf_slot (c j : Dev nD) (k : S8x256.Idx) (i : S32x8x256.Idx) (h0 : (i 0).val = j.val) (h1 : (i 1).val = (k 0).val) (h2 : (i 2).val = (k 1).val) :
    contrib m j ((rowsM c).view.emb k) = rbufAt m c i := by
  have hs : slotOf i = j := Fin.ext h0
  unfold rbufAt
  rw [hs]
  congr 1
  obtain ⟨e0, e1⟩ := rows_emb c k
  refine idx2_ext ?_ ?_
  · rw [e0]; show _ = 8 * c.val + (i 1).val; rw [h1]
  · rw [e1]; show _ = (i 2).val; rw [h2]

/-- Device `j`'s block for device `c` lands in slot `j` as the receive buffer has it. -/
theorem land_slot (c j : Dev nD) (fd : Vec F S32x8x256 .f32) : ∀ i ∈ (slotR j).set,
    (slotM j).view.write (Elt F) fd ((rowsM c).view.read (Elt F) (contrib m j)) Finset.univ i = rbufAt m c i := by
  intro i hi
  rw [← slot_set, View.set] at hi
  obtain ⟨k, -, rfl⟩ := Finset.mem_map.1 hi
  rw [View.write_emb_of_mem _ _ (Finset.mem_univ _)]
  obtain ⟨e0, e1, e2⟩ := slot_emb j k
  exact rbuf_slot m c j k _ e0 e1 e2

/-- The stored block is the loaded rows with a leading axis of one. -/
theorem pay5_apply (v : Vec F S8x256 .f32) (k : S1x8x256.Idx) : k0_pay5 v k = v (ix2 (k 1 : Fin 8) (k 2 : Fin 256)) := by
  have hk : k = ix3 (0 : Fin 1) (k 1 : Fin 8) (k 2 : Fin 256) := by
    refine Shape.idx3_ext ?_ rfl rfl
    have : (k 0).val < 1 := (k 0).isLt
    show (k 0).val = 0
    omega
  have e : k0_pay5 v = shapeCast S1x8x256 v shapeCasts_S8x256_S1x8x256 := by
    unfold k0_pay5
    rw [shapeCast_self]
  rw [e]
  exact (congrArg _ hk).trans (shapeCast_ab_1ab_apply (a := 8) (b := 256) v shapeCasts_S8x256_S1x8x256 (0 : Fin 1) (k 1 : Fin 8) (k 2 : Fin 256))

/-- A store of a block of 8 rows in slot `c` writes contents that have the block there. -/
theorem store_slot (c : Dev nD) (fd g : Vec F S32x8x256 .f32) (v : Vec F S8x256 .f32)
    (h : ∀ k : S1x8x256.Idx, v (ix2 (k 1 : Fin 8) (k 2 : Fin 256)) = g (((bM : Memref sig .tc .vmem S32x8x256 .f32).access (slotR c)).emb k)) :
    ∀ i ∈ (slotR c).set, ((bM : Memref sig .tc .vmem S32x8x256 .f32).access (slotR c)).write (Elt F) fd (k0_pay5 v) Finset.univ i = g i := by
  intro i hi
  have hi : i ∈ ((bM : Memref sig .tc .vmem S32x8x256 .f32).access (slotR c)).set := by rw [slot_access_set]; exact hi
  obtain ⟨k, -, rfl⟩ := Finset.mem_map.1 hi
  refine (View.write_emb_of_mem _ _ (Finset.mem_univ k)).trans ?_
  rw [← h k, ← pay5_apply v k]
  exact cast_eq _ _

/-- The rows a load of group `c` reads. -/
theorem load_rows (c : Dev nD) (f : Vec F S256x256 .f32) (k : S8x256.Idx) :
    (oM : Memref sig .tc .vmem S256x256 .f32).view.readAt (Elt F) (rowsR c).toLoadRect f k = f ((rowsM c).view.emb k) := rfl

/-- Where entry `k` of the stored block goes. -/
theorem slot_access_emb (c : Dev nD) (k : S1x8x256.Idx) :
    ((((bM : Memref sig .tc .vmem S32x8x256 .f32).access (slotR c)).emb k : S32x8x256.Idx) 0).val = c.val
      ∧ ((((bM : Memref sig .tc .vmem S32x8x256 .f32).access (slotR c)).emb k : S32x8x256.Idx) 1).val = (k 1).val
      ∧ ((((bM : Memref sig .tc .vmem S32x8x256 .f32).access (slotR c)).emb k : S32x8x256.Idx) 2).val = (k 2).val := by
  have h0 : (k 0).val < 1 := (k 0).isLt
  refine ⟨?_, ?_, ?_⟩
  · show c.val + 1 * (k 0).val = _; omega
  · show 0 + 1 * (k 1).val = (k 1).val; omega
  · show 0 + 1 * (k 2).val = (k 2).val; omega

/-- The kernel's own copy of its rows writes slot `c` as the receive buffer has it. -/
theorem own_slot (c : Dev nD) (fd : Vec F S32x8x256 .f32) : ∀ i ∈ (slotR c).set,
    ((bM : Memref sig .tc .vmem S32x8x256 .f32).access (slotR c)).write (Elt F) fd
      (k0_pay5 ((oM : Memref sig .tc .vmem S256x256 .f32).view.readAt (Elt F) (rowsR c).toLoadRect (contrib m c))) Finset.univ i = rbufAt m c i := by
  refine store_slot c fd (rbufAt m c) _ fun k => ?_
  obtain ⟨e0, e1, e2⟩ := slot_access_emb c k
  rw [load_rows]
  exact rbuf_slot m c c (ix2 (k 1 : Fin 8) (k 2 : Fin 256)) _ e0 e1 e2

/-- Entry `k` of group `j` of rows of the result is entry `k` of device `j`'s accumulator. -/
theorem out_rows (j : Dev nD) (k : S8x256.Idx) : accAt m j k = outAt m ((rowsM j).view.emb k) := by
  obtain ⟨e0, e1⟩ := rows_emb j k
  have hk : (k 0).val < 8 := (k 0).isLt
  have hs : rowsOf ((rowsM j).view.emb k) = j := Fin.ext (by show (((rowsM j).view.emb k : S256x256.Idx) 0).val / 8 = _; rw [e0]; omega)
  unfold outAt
  rw [hs]
  congr 1
  refine idx2_ext ?_ ?_
  · show _ = (((rowsM j).view.emb k : S256x256.Idx) 0).val % 8; rw [e0]; omega
  · show _ = (((rowsM j).view.emb k : S256x256.Idx) 1).val; rw [e1]

/-- Device `j`'s accumulator lands in rows `8 j … 8 j + 7` as the result has them; -/
theorem land_rows (j : Dev nD) (fd : Vec F S256x256 .f32) : ∀ i ∈ (rowsR j).set,
    (rowsM j).view.write (Elt F) fd ((aM : Memref sig .tc .vmem S8x256 .f32).view.read (Elt F) (accAt m j)) Finset.univ i = outAt m i := by
  intro i hi
  have hi : i ∈ (rowsM j).view.set := (rows_set j).symm ▸ hi
  obtain ⟨k, -, rfl⟩ := Finset.mem_map.1 hi
  exact (View.write_emb_of_mem (v := (rowsM j).view) (Val := Elt F) fd _ (Finset.mem_univ k)).trans (out_rows m j k)
/-- and so does the kernel's own copy of it. -/
theorem own_rows (c : Dev nD) (fd : Vec F S256x256 .f32) : ∀ i ∈ (rowsR c).set,
    ((oM : Memref sig .tc .vmem S256x256 .f32).access (rowsR c)).write (Elt F) fd (accAt m c) Finset.univ i = outAt m i := by
  intro i hi
  have hi : i ∈ ((oM : Memref sig .tc .vmem S256x256 .f32).access (rowsR c)).set := by rw [rows_access_set]; exact hi
  obtain ⟨k, -, rfl⟩ := Finset.mem_map.1 hi
  exact (View.write_emb_of_mem (v := (oM : Memref sig .tc .vmem S256x256 .f32).access (rowsR c)) (Val := Elt F) fd _ (Finset.mem_univ k)).trans (out_rows m c k)

/-- A load of the whole accumulator reads it; -/
theorem load_acc (f : Vec F S8x256 .f32) :
    (aM : Memref sig .tc .vmem S8x256 .f32).view.readAt (Elt F) (Rect.unit (s := S8x256) ![0, 0] S8x256.size inb_S8x256_S8x256_0_0).toLoadRect f = f :=
  Memref.readAt_unit_zero (Elt F) cc0_scratch1 (by decide) inb_S8x256_S8x256_0_0 f
/-- of the whole receive buffer, the tokens, the routing, likewise; -/
theorem load_buf (f : Vec F S32x8x256 .f32) :
    (bM : Memref sig .tc .vmem S32x8x256 .f32).view.readAt (Elt F) (Rect.unit (s := S32x8x256) ![0, 0, 0] S32x8x256.size inb_S32x8x256_S32x8x256_0_0_0).toLoadRect f = f :=
  Memref.readAt_unit_zero (Elt F) cc0_scratch0 (by decide) inb_S32x8x256_S32x8x256_0_0_0 f
theorem load_x (f : Vec F S256x128 .f32) :
    (xM : Memref sig .tc .vmem S256x128 .f32).view.readAt (Elt F) (Rect.unit (s := S256x128) ![0, 0] S256x128.size inb_S256x128_S256x128_0_0).toLoadRect f = f :=
  Memref.readAt_unit_zero (Elt F) cc0_stg0_0 (by decide) inb_S256x128_S256x128_0_0 f
theorem load_r (f : Vec F S256x1 .i32) :
    (rM : Memref sig .tc .vmem S256x1 .i32).view.readAt (Elt F) (Rect.unit (s := S256x1) ![0, 0] S256x1.size inb_S256x1_S256x1_0_0).toLoadRect f = f :=
  Memref.readAt_unit_zero (Elt F) cc0_stg1_0 (by decide) inb_S256x1_S256x1_0_0 f
/-- a store of the whole accumulator and of the whole result leaves what was stored. -/
theorem store_acc (f w : Vec F S8x256 .f32) :
    ((aM : Memref sig .tc .vmem S8x256 .f32).access (Rect.unit (s := S8x256) ![0, 0] S8x256.size inb_S8x256_S8x256_0_0)).write (Elt F) f w Finset.univ = w :=
  Memref.write_access_unit_zero_univ (Elt F) cc0_scratch1 (by decide) inb_S8x256_S8x256_0_0 f w
theorem store_out (f w : Vec F S256x256 .f32) :
    ((oM : Memref sig .tc .vmem S256x256 .f32).access (Rect.unit (s := S256x256) ![0, 0] S256x256.size inb_S256x256_S256x256_0_0)).write (Elt F) f w Finset.univ = w :=
  Memref.write_access_unit_zero_univ (Elt F) cc0_stg3_0 (by decide) inb_S256x256_S256x256_0_0 f w

end Cert.Moe

end
-- ==== Proof.Schedule.lean ====
/-
# The protocol

Every cell has one round. A device's barrier cell is paid one unit by each other device, which hands over its slot for
this device; a landing cell of the first exchange is paid by the landing block, which brings the filled slot and the
sender's rows the block was read from; a landing cell of the second exchange brings the filled rows; a send cell of the
first exchange brings nothing, one of the second the share of the accumulator the copy read from. What a device owes at
launch, and the levels that order the waits, are here too.
-/
module

public import proofs.«01_k».proof.Proof.Values

@[expose] public section

set_option maxRecDepth 16384

noncomputable section

namespace Cert.Moe

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-- The share of the accumulator that the copy to device `j` reads at. -/
def accShare (j : Dev nD) : PosShare TreeShare := ShareLeaves.leaf 5 fullShare ⟨j.val, j.isLt⟩

/-- The whole accumulator is its 32 shares. -/
theorem acc_split (c : Dev nD) (f : Vec F S8x256 .f32) :
    (accPts c fullShare f : sProp 𝕄) = bigSep Finset.univ fun j : Dev nD => accPts c (accShare j) f := by
  unfold accPts accShare
  exact ShareLeaves.pointsTo_leaves _ _ 5 fullShare

/-- What duty `d` of cell `k` of device `c` hands over. -/
def pay (c : Dev nD) (k : CK) (d : Dev nD) : sProp 𝕄 :=
  match k with
  | none => iprop(∃ f, slotPts d c f)
  | some (0, _) => iprop(emp)
  | some (1, j) => iprop(slotPts c j (rbufAt m c) ∗ rowsPts j c (contrib m j))
  | some (2, j) => accPts c (accShare j) (accAt m c)
  | some (3, j) => rowsPts c j (outAt m)

instance pay_storable (c : Dev nD) (k : CK) (d : Dev nD) : BI.Storable (upEmb : UEmb _ 𝕄) (pay m c k d) := by
  unfold pay
  split <;> infer_instance

/-- The duties of cell `k` of device `c`: each other device on the barrier, the one peer on a transfer cell. -/
def dut (c : Dev nD) : CK → Finset (Dev nD)
  | none => Finset.univ.erase c
  | some (_, j) => if j = c then ∅ else {j}

/-- The protocol: one round per cell, round 0. -/
def Rd : Rounds.Schedule (GSem nD τ sig) (Dev nD) 𝕄 where
  duties g r := if r = 0 ∧ g.1.2 = .tc then (match kind g.2 with | some k => dut g.1.1 k | none => ∅) else ∅
  unitless _ := False
  amount g _ _ := if g.2 = csem none then 1 else N
  payload g _ d := match kind g.2 with | some k => pay m g.1.1 k d | none => iprop(emp)
  amount_pos g _ _ _ := by
    by_cases h : g.2 = csem none
    · rw [if_pos h]; exact Nat.one_pos
    · rw [if_neg h]; exact N_pos

instance Rd_payload_storable (g : GSem nD τ sig) (r : ℕ) (d : Dev nD) :
    BI.Storable (upEmb : UEmb _ 𝕄) ((Rd (F := F) m).payload g r d) := by
  show BI.Storable upEmb (match kind g.2 with | some k => pay m g.1.1 k d | none => iprop(emp))
  split <;> infer_instance

theorem duties_eq (c : Dev nD) (k : CK) : (Rd (F := F) m).duties (kcell (c, k)) 0 = dut c k := by
  dsimp only [Rd]
  rw [if_pos ⟨rfl, rfl⟩, kind_csem]
theorem duties_later (g : GSem nD τ sig) : ∀ r, 1 ≤ r → (Rd (F := F) m).duties g r = ∅ :=
  fun r hr => by dsimp only [Rd]; rw [if_neg fun h => by omega]
theorem payload_eq (c : Dev nD) (k : CK) (d : Dev nD) : (Rd (F := F) m).payload (kcell (c, k)) 0 d = pay m c k d := by
  dsimp only [Rd]
  rw [kind_csem]
theorem amount_bar (c d : Dev nD) : (Rd (F := F) m).amount (barCell c) 0 d = 1 := by dsimp only [Rd]; exact if_pos rfl
theorem csem_ne_bar (aj : Fin 4 × Dev nD) : csem (some aj) ≠ csem none := fun h => nomatch csem_inj h
theorem amount_dma (c : Dev nD) (a : Fin 4) (j d : Dev nD) : (Rd (F := F) m).amount (dCell c a j) 0 d = N := by
  dsimp only [Rd]; exact if_neg (csem_ne_bar (a, j))

theorem dut_dma (c : Dev nD) (a : Fin 4) (j : Dev nD) (h : j ≠ c) : dut c (some (a, j)) = {j} := if_neg h

theorem expect_bar (c : Dev nD) : (Rd (F := F) m).expect (barCell c) 0 = 31 := by
  unfold Schedule.expect Schedule.amountOf
  rw [duties_eq, Finset.sum_congr rfl fun d _ => amount_bar m c d, Finset.sum_const, smul_eq_mul, mul_one]
  exact (Finset.card_erase_of_mem (Finset.mem_univ c)).trans (by decide)
theorem expect_dma (c : Dev nD) (a : Fin 4) (j : Dev nD) (h : j ≠ c) : (Rd (F := F) m).expect (dCell c a j) 0 = N := by
  unfold Schedule.expect Schedule.amountOf
  rw [duties_eq, dut_dma c a j h, Finset.sum_singleton, amount_dma]

/-- All of a barrier cell's round: the other devices' slots for `c`. -/
theorem rest_bar (c : Dev nD) : bigSep ((Rd (F := F) m).duties (barCell c) 0 \ ∅) (fun d => (Rd (F := F) m).payload (barCell c) 0 d)
    = bigSep (Finset.univ.erase c) fun d => iprop(∃ f, slotPts d c f) := by
  rw [Finset.sdiff_empty, duties_eq]
  exact bigSep_congr fun d _ => payload_eq m c none d
/-- All of a transfer cell's round: its one payload. -/
theorem rest_dma (c : Dev nD) (a : Fin 4) (j : Dev nD) (h : j ≠ c) :
    bigSep ((Rd (F := F) m).duties (dCell c a j) 0 \ ∅) (fun d => (Rd (F := F) m).payload (dCell c a j) 0 d) = pay m c (some (a, j)) j := by
  rw [Finset.sdiff_empty, duties_eq, dut_dma c a j h, bigSep_singleton, payload_eq]

/-! ## What a device owes; the levels -/

/-- What device `c` still owes: a barrier unit to each of `SA`, a block of the first exchange to each of `SB`, a block
    of the second to each of `SD`. -/
def owed (c : Dev nD) (SA SB SD : Finset (Dev nD)) : CellTallies nD τ sig Unit :=
  ∑ j ∈ SD, tallyAt (dCell j 3 c) () N + ∑ j ∈ SB, tallyAt (dCell j 1 c) () N + ∑ j ∈ SA, tallyAt (barCell j) () 1

theorem owed_A (c j : Dev nD) (SA SB SD : Finset (Dev nD)) (h : j ∉ SA) : owed c (insert j SA) SB SD = owed c SA SB SD + tallyAt (barCell j) () 1 := by
  unfold owed; rw [Finset.sum_insert h]; ac_rfl
theorem owed_B (c j : Dev nD) (SA SB SD : Finset (Dev nD)) (h : j ∉ SB) : owed c SA (insert j SB) SD = owed c SA SB SD + tallyAt (dCell j 1 c) () N := by
  unfold owed; rw [Finset.sum_insert h]; ac_rfl
theorem owed_D (c j : Dev nD) (SA SB SD : Finset (Dev nD)) (h : j ∉ SD) : owed c SA SB (insert j SD) = owed c SA SB SD + tallyAt (dCell j 3 c) () N := by
  unfold owed; rw [Finset.sum_insert h]; ac_rfl
theorem owed_none (c : Dev nD) : owed c ∅ ∅ ∅ = 0 := by unfold owed; simp

/-- The cells levels are read at. -/
def L (g : GSem nD τ sig) : Finset Unit := if g.1.2 = .tc then {()} else ∅
/-- Barrier cells at 1, landing cells of the first exchange at 2, of the second at 3, the rest at 0. -/
def lvK : Option CK → ℕ
  | some none => 1
  | some (some (a, _)) => if a = 1 then 2 else if a = 3 then 3 else 0
  | none => 0
def lv (g : GSem nD τ sig) (_ : Unit) : ℕ := lvK (kind g.2)

theorem L_of_ne (g : GSem nD τ sig) (h : g.1.2 ≠ .tc) : L g = ∅ := if_neg h
theorem L_tc (c : Dev nD) (sm : SemLoc sig) : L ((c : Thread nD τ), sm) = {()} := if_pos rfl
theorem lv_cell (c : Dev nD) (k : CK) (u : Unit) : lv (kcell (c, k)) u = lvK (some k) := by unfold lv; rw [kind_csem]

/-- A sum of credits is positive at a cell only if one of them is there. -/
theorem sum_tally_pos {S : Finset (Dev nD)} {f : Dev nD → GSem nD τ sig} {n : ℕ} {g : GSem nD τ sig} {u : Unit}
    (h : 0 < (∑ j ∈ S, (tallyAt (f j) () n : CellTallies nD τ sig Unit)) g u) : ∃ j ∈ S, g = f j := by
  rw [Finset.sum_apply, Finsupp.finset_sum_apply] at h
  obtain ⟨j, hj, hne⟩ := Finset.exists_ne_zero_of_sum_ne_zero (Nat.pos_iff_ne_zero.1 h)
  rw [tallyAt_apply] at hne
  refine ⟨j, hj, ?_⟩
  by_contra hg
  exact hne (if_neg fun h' => hg h'.1)

theorem owed_pos {c : Dev nD} {SA SB SD : Finset (Dev nD)} {g : GSem nD τ sig} {u : Unit} (h : 0 < owed c SA SB SD g u) :
    (∃ j ∈ SD, g = dCell j 3 c) ∨ (∃ j ∈ SB, g = dCell j 1 c) ∨ (∃ j ∈ SA, g = barCell j) := by
  unfold owed at h
  rw [Pi.add_apply, Finsupp.add_apply, Pi.add_apply, Finsupp.add_apply] at h
  rcases Nat.eq_zero_or_pos ((∑ j ∈ SD, (tallyAt (dCell j 3 c) () N : CellTallies nD τ sig Unit)) g u) with h1 | h1
  · rcases Nat.eq_zero_or_pos ((∑ j ∈ SB, (tallyAt (dCell j 1 c) () N : CellTallies nD τ sig Unit)) g u) with h2 | h2
    · simp only [h1, h2, Nat.zero_add] at h
      exact Or.inr (Or.inr (sum_tally_pos h))
    · exact Or.inr (Or.inl (sum_tally_pos h2))
  · exact Or.inl (sum_tally_pos h1)

/-- The level of anything still owed is at least `l`, where nothing owed lies below it. -/
theorem owed_level {c : Dev nD} {SA SB SD : Finset (Dev nD)} {l : ℕ} (hA : SA = ∅ ∨ l ≤ 1) (hB : SB = ∅ ∨ l ≤ 2) (hl : l ≤ 3)
    {g : GSem nD τ sig} {u : Unit} (h : 0 < owed c SA SB SD g u) : u ∈ L g ∧ l ≤ lv g u := by
  rcases owed_pos h with ⟨j, hj, rfl⟩ | ⟨j, hj, rfl⟩ | ⟨j, hj, rfl⟩
  · refine ⟨by rw [L_tc]; exact Finset.mem_singleton_self _, ?_⟩
    rw [lv_cell]; exact hl
  · refine ⟨by rw [L_tc]; exact Finset.mem_singleton_self _, ?_⟩
    rw [lv_cell]
    rcases hB with rfl | hB
    · exact absurd hj (Finset.notMem_empty _)
    · exact hB
  · refine ⟨by rw [L_tc]; exact Finset.mem_singleton_self _, ?_⟩
    rw [lv_cell]
    rcases hA with rfl | hA
    · exact absurd hj (Finset.notMem_empty _)
    · exact hA

/-- A device may wait on a semaphore at level `l` while all it owes is above `l`. -/
theorem mayWait (c : Dev nD) (sm : SemLoc sig) (SA SB SD : Finset (Dev nD)) (l : ℕ) (hs : lvK (kind sm) = l)
    (hA : SA = ∅ ∨ l + 1 ≤ 1) (hB : SB = ∅ ∨ l + 1 ≤ 2) (hl : l + 1 ≤ 3) :
    (levAts L lv : sProp 𝕄) ⊢ MayWait (c : Thread nD τ) sm () (owed c SA SB SD) :=
  MayOwe.of_cut (L := L) (lev := lv) l (fun p hp => by rw [Finset.mem_singleton.mp hp, L_tc]; exact Finset.mem_singleton_self _)
    (fun g u hg => (owed_level hA hB hl hg).1)
    (fun p hp => by rw [Finset.mem_singleton.mp hp]; exact hs.le)
    (fun g u hg => (owed_level hA hB hl hg).2)

/-! ## The records every device holds -/

/-- Every cell's invariant, under the names `K`, and that every cell has reached round 0. -/
def records (K : Dev nD × CK → ℕ) : sProp 𝕄 :=
  iprop((bigSep Finset.univ fun ck : Dev nD × CK => cellInv ER (Rd m) (K ck) (kcell ck))
    ∗ bigSep Finset.univ fun ck : Dev nD × CK => reached ER (kcell ck) 0)

instance records_persistent (K : Dev nD × CK → ℕ) : BI.Persistent (records m K) := by unfold records; infer_instance

theorem inv_at (K : Dev nD × CK → ℕ) (c : Dev nD) (k : CK) : records m K ⊢ cellInv ER (Rd m) (K (c, k)) (kcell (c, k)) := by
  have e : (bigSep Finset.univ fun ck : Dev nD × CK => (cellInv ER (Rd m) (K ck) (kcell ck) : sProp 𝕄)) ⊢ cellInv ER (Rd m) (K (c, k)) (kcell (c, k)) :=
    bigSep_elim (Finset.mem_univ (c, k))
  unfold records
  iintro ⟨#H, -⟩
  iapply e
  iexact H
theorem reached_at (K : Dev nD × CK → ℕ) (c : Dev nD) (k : CK) : records m K ⊢ reached ER (kcell (c, k)) 0 := by
  have e : (bigSep Finset.univ fun ck : Dev nD × CK => (reached ER (kcell ck) 0 : sProp 𝕄)) ⊢ reached ER (kcell (c, k)) 0 :=
    bigSep_elim (Finset.mem_univ (c, k))
  unfold records
  iintro ⟨-, #H⟩
  iapply e
  iexact H

end Cert.Moe

end
-- ==== Proof.Loop.lean ====
/-
# Loops over the other devices

The kernel runs each of its loops over the other devices unrolled, every step guarded by a test that the device is
another one. A loop's state holds what the devices still to come start from and what those already dealt with left; a
guarded step takes one device across. Also here: running one piece of the program after another, and the tests.
-/
module

public import proofs.«01_k».proof.Proof.Schedule

@[expose] public section

set_option maxRecDepth 16384

noncomputable section

namespace Cert.Moe

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-- No loop of the program is bounded by a variant. -/
abbrev 𝒱₀ : Variants := Variants.none

/-- Device `c` runs `e` and then holds `Q`. -/
abbrev WP (c : Dev nD) {α : Type} (e : Prog (TpuEff nD τ sig (Elt F) Λ₀ .tc) α) (Q : α → sProp 𝕄) : sProp 𝕄 :=
  wp frame (wpE (defs₀ (F := F)) 𝒱₀ (c : Thread nD τ) none) Set.univ e Q

/-! ## Running one piece after another -/

/-- A piece and the rest, what the piece leaves being what the rest starts from. -/
theorem seq {c : Dev nD} {α β : Type} {e : Prog (TpuEff nD τ sig (Elt F) Λ₀ .tc) α} {k : α → Prog (TpuEff nD τ sig (Elt F) Λ₀ .tc) β}
    {P : sProp 𝕄} {R : α → sProp 𝕄} {Q : β → sProp 𝕄} (h : P ⊢ WP c e R) (hk : ∀ a, R a ⊢ WP c (k a) Q) : P ⊢ WP c (e >>= k) Q := by
  unfold WP
  rw [wp_bind]
  exact h.trans (wp_mono _ _ _ hk)
/-- A piece that returns nothing. -/
theorem seq0 {c : Dev nD} {β : Type} {e : Prog (TpuEff nD τ sig (Elt F) Λ₀ .tc) PUnit} {k : PUnit → Prog (TpuEff nD τ sig (Elt F) Λ₀ .tc) β}
    {P R : sProp 𝕄} {Q : β → sProp 𝕄} (h : P ⊢ WP c e fun _ => R) (hk : R ⊢ WP c (k ⟨⟩) Q) : P ⊢ WP c (e >>= k) Q :=
  seq h fun _ => hk
/-- What a piece does not touch is still there after it. -/
theorem with_frame {c : Dev nD} {α : Type} {e : Prog (TpuEff nD τ sig (Elt F) Λ₀ .tc) α} {P : sProp 𝕄} {R : α → sProp 𝕄} (X : sProp 𝕄)
    (h : P ⊢ WP c e R) : iprop(P ∗ X) ⊢ WP c e fun a => iprop(R a ∗ X) :=
  (sep_mono_left h).trans (wp_frame_r _ _ _)
/-- The end of a piece. -/
theorem done {c : Dev nD} {α : Type} {a : α} {P : sProp 𝕄} {Q : α → sProp 𝕄} (h : P ⊢ Q a) : P ⊢ WP c (pure a) Q := by
  unfold WP
  rw [Prog.pure_eq_ret, wp_ret]
  exact h.trans fupd_intro

/-- A conditional piece with nothing in its other branch. -/
theorem cond_block {c : Dev nD} {n : ℕ} {p : Prop} [Decidable p] {A : p → Prog (TpuEff nD τ sig (Elt F) Λ₀ .tc) PUnit} {q : Prop} (hp : p ↔ q)
    {P Q : sProp 𝕄} (hA : ∀ h : p, q → P ⊢ WP c (A h) fun _ => Q) (hB : ¬ q → P ⊢ Q) :
    P ⊢ WP c (if h : p then A h else pure ⟨⟩) fun _ => Q := by
  by_cases h : p
  · rw [dif_pos h]; exact hA h (hp.1 h)
  · rw [dif_neg h]; exact done (hB fun hq => h (hp.2 hq))

/-- A conditional piece followed by the rest of the program, which the program writes at the end of either branch;
    what the piece does not touch is handed on. -/
theorem then_rest {c : Dev nD} {β : Type} {p : Prop} [Decidable p] {A : p → Prog (TpuEff nD τ sig (Elt F) Λ₀ .tc) PUnit} {k : Prog (TpuEff nD τ sig (Elt F) Λ₀ .tc) β}
    {P R X : sProp 𝕄} {Q : β → sProp 𝕄} (h : P ⊢ WP c (if h : p then A h else pure ⟨⟩) fun _ => R) (hk : iprop(R ∗ X) ⊢ WP c k Q) :
    iprop(P ∗ X) ⊢ WP c (if h : p then A h >>= fun _ => k else k) Q := by
  have h := with_frame X h
  by_cases hp : p
  · rw [dif_pos hp] at h ⊢; exact seq0 h hk
  · rw [dif_neg hp] at h ⊢; exact seq0 (k := fun _ => k) h hk

/-! ## Loops over the other devices -/

/-- The other devices from number `n` on, and those before it. -/
def rem (c : Dev nD) (n : ℕ) : Finset (Dev nD) := Finset.univ.filter fun j => n ≤ j.val ∧ j ≠ c
def don (c : Dev nD) (n : ℕ) : Finset (Dev nD) := Finset.univ.filter fun j => j.val < n ∧ j ≠ c

theorem rem_zero (c : Dev nD) : rem c 0 = Finset.univ.erase c := by
  ext j; simp [rem]
theorem don_zero (c : Dev nD) : don c 0 = ∅ := by
  ext j; simp [don]
theorem rem_all (c : Dev nD) : rem c 32 = ∅ := by
  ext j; have : j.val < 32 := j.isLt; simp [rem]
theorem don_all (c : Dev nD) : don c 32 = Finset.univ.erase c := by
  ext j; have : j.val < 32 := j.isLt; simp [don]
theorem rem_step (c j : Dev nD) (h : j ≠ c) : rem c j.val = insert j (rem c (j.val + 1)) := by
  ext i
  simp only [rem, Finset.mem_filter, Finset.mem_univ, true_and, Finset.mem_insert]
  constructor
  · rintro ⟨h1, h2⟩
    by_cases e : i = j
    · exact Or.inl e
    · have : i.val ≠ j.val := fun e' => e (Fin.ext e')
      exact Or.inr ⟨by omega, h2⟩
  · rintro (rfl | ⟨h1, h2⟩)
    · exact ⟨le_refl _, h⟩
    · exact ⟨by omega, h2⟩
theorem rem_notMem (c j : Dev nD) : j ∉ rem c (j.val + 1) := by
  simp only [rem, Finset.mem_filter, not_and]; intro _ h; omega
theorem don_step (c j : Dev nD) (h : j ≠ c) : don c (j.val + 1) = insert j (don c j.val) := by
  ext i
  simp only [don, Finset.mem_filter, Finset.mem_univ, true_and, Finset.mem_insert]
  constructor
  · rintro ⟨h1, h2⟩
    by_cases e : i = j
    · exact Or.inl e
    · have : i.val ≠ j.val := fun e' => e (Fin.ext e')
      exact Or.inr ⟨by omega, h2⟩
  · rintro (rfl | ⟨h1, h2⟩)
    · exact ⟨by omega, h⟩
    · exact ⟨by omega, h2⟩
theorem don_notMem (c j : Dev nD) : j ∉ don c j.val := by
  simp only [don, Finset.mem_filter, not_and]; intro _ h; omega
theorem rem_skip (c : Dev nD) : rem c c.val = rem c (c.val + 1) := by
  ext i
  simp only [rem, Finset.mem_filter, Finset.mem_univ, true_and]
  constructor
  · rintro ⟨h1, h2⟩
    have : i.val ≠ c.val := fun e' => h2 (Fin.ext e')
    exact ⟨by omega, h2⟩
  · rintro ⟨h1, h2⟩; exact ⟨by omega, h2⟩
theorem don_skip (c : Dev nD) : don c c.val = don c (c.val + 1) := by
  ext i
  simp only [don, Finset.mem_filter, Finset.mem_univ, true_and]
  constructor
  · rintro ⟨h1, h2⟩; exact ⟨by omega, h2⟩
  · rintro ⟨h1, h2⟩
    have : i.val ≠ c.val := fun e' => h2 (Fin.ext e')
    exact ⟨by omega, h2⟩

/-- A loop over the other devices that has come to number `n`: what the devices to come start from, what the devices
    already dealt with left. -/
def loop (c : Dev nD) (Pre Post : Dev nD → sProp 𝕄) (n : ℕ) : sProp 𝕄 := iprop(bigSep (rem c n) Pre ∗ bigSep (don c n) Post)

theorem loop_zero (c : Dev nD) (Pre Post : Dev nD → sProp 𝕄) : bigSep (Finset.univ.erase c) Pre ⊢ loop c Pre Post 0 := by
  unfold loop
  rw [rem_zero, don_zero, bigSep_empty]
  iintro H
  isplitl [H]; · iexact H
  iempintro
theorem loop_all (c : Dev nD) (Pre Post : Dev nD → sProp 𝕄) : loop c Pre Post 32 ⊢ bigSep (Finset.univ.erase c) Post := by
  unfold loop
  rw [rem_all, don_all]
  iintro ⟨-, H⟩
  iexact H
/-- The next device's start leaves the loop, and what it left joins. -/
theorem loop_take (c j : Dev nD) (h : j ≠ c) (Pre Post : Dev nD → sProp 𝕄) :
    loop c Pre Post j.val ⊢ iprop(Pre j ∗ (Post j -∗ loop c Pre Post (j.val + 1))) := by
  unfold loop
  have e1 : bigSep (rem c j.val) Pre = iprop(Pre j ∗ bigSep (rem c (j.val + 1)) Pre) := by
    rw [rem_step c j h]; exact bigSep_insert (rem_notMem c j)
  have e2 : bigSep (don c (j.val + 1)) Post = iprop(Post j ∗ bigSep (don c j.val) Post) := by
    rw [don_step c j h]; exact bigSep_insert (don_notMem c j)
  rw [e1, e2]
  iintro ⟨⟨H1, H2⟩, H3⟩
  isplitl [H1]; · iexact H1
  iintro H
  isplitl [H2]; · iexact H2
  isplitl [H] <;> iassumption
theorem loop_skip (c : Dev nD) (Pre Post : Dev nD → sProp 𝕄) : loop c Pre Post c.val = loop c Pre Post (c.val + 1) := by
  unfold loop
  rw [rem_skip c, don_skip c]

/-- What every device's every step has at hand: the cells' invariants, and the levels. -/
def ctx (K : Dev nD × CK → ℕ) : sProp 𝕄 := iprop(records m K ∗ levAts L lv)
instance ctx_persistent (K : Dev nD × CK → ℕ) : BI.Persistent (ctx m K) := by unfold ctx; infer_instance

/-- Device `c` owes `O`, whatever it has waited on. -/
def owesAny (c : Dev nD) (O : CellTallies nD τ sig Unit) : sProp 𝕄 := iprop(∃ W, owes (c : Thread nD τ) O W)

/-- A loop's state: what is at hand, what is owed, and the loop's resources. -/
def st (K : Dev nD × CK → ℕ) (c : Dev nD) (Of : ℕ → CellTallies nD τ sig Unit) (Pre Post : Dev nD → sProp 𝕄) (n : ℕ) : sProp 𝕄 :=
  iprop(ctx m K ∗ owesAny c (Of n) ∗ loop c Pre Post n)

/-- One conditional step of a loop: the step takes device `n`'s start to what it leaves; on device `n` itself nothing
    happens. -/
theorem loop_block (K : Dev nD × CK → ℕ) (c : Dev nD) (Of : ℕ → CellTallies nD τ sig Unit) (Pre Post : Dev nD → sProp 𝕄) (j : Dev nD)
    {p : Prop} [Decidable p] {A : p → Prog (TpuEff nD τ sig (Elt F) Λ₀ .tc) PUnit} (hp : p ↔ c.val ≠ j.val)
    (hskip : Of c.val = Of (c.val + 1))
    (hA : ∀ h : p, j ≠ c → iprop(ctx m K ∗ owesAny c (Of j.val) ∗ Pre j) ⊢ WP c (A h) fun _ => iprop(owesAny c (Of (j.val + 1)) ∗ Post j)) :
    st m K c Of Pre Post j.val ⊢ WP c (if h : p then A h else pure ⟨⟩) fun _ => st m K c Of Pre Post (j.val + 1) := by
  refine cond_block (n := j.val) hp (fun h hq => ?_) (fun hq => ?_)
  · have hne : j ≠ c := fun e => hq (congrArg Fin.val e).symm
    have h1 : st m K c Of Pre Post j.val ⊢ iprop((ctx m K ∗ owesAny c (Of j.val) ∗ Pre j) ∗ (ctx m K ∗ (Post j -∗ loop c Pre Post (j.val + 1)))) := by
      unfold st
      iintro ⟨#Hc, Ho, Hl⟩
      ihave Hl := (loop_take c j hne Pre Post) $$ Hl
      icases Hl with ⟨Hp, Hw⟩
      isplitl [Ho Hp]
      · isplitr; · iexact Hc
        isplitl [Ho] <;> iassumption
      isplitr; · iexact Hc
      iexact Hw
    refine h1.trans ((with_frame _ (hA h hne)).trans (wp_mono _ _ _ fun _ => ?_))
    unfold st
    iintro ⟨⟨Ho, Hp⟩, #Hc, Hw⟩
    isplitr; · iexact Hc
    isplitl [Ho]; · iexact Ho
    iapply Hw
    iexact Hp
  · have e : c = j := Fin.ext (not_not.1 hq)
    subst e
    unfold st
    rw [hskip, loop_skip]

end Cert.Moe

end
-- ==== Proof.Steps.lean ====
/-
# The steps

One step of each loop, from what it needs to what it leaves: a signal to another device's barrier, the wait on the
device's own barrier, a copy of each exchange, a wait on a transfer cell.
-/
module

public import proofs.«01_k».proof.Proof.Loop

@[expose] public section

set_option maxRecDepth 16384

noncomputable section

namespace Cert.Moe

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## What each step starts from and leaves -/

variable (K : Dev nD × CK → ℕ)

/-- What the signal to device `j` needs: the duty's token, and device `c`'s slot for `j`. -/
def preA (c j : Dev nD) : sProp 𝕄 := iprop(dutyTok ER (barCell j) 0 c ∗ ∃ f, slotPts c j f)
def postA (c j : Dev nD) : sProp 𝕄 := iprop(emp)
/-- What the first exchange's copy to `j` needs: the two duties' tokens, the rows it reads, the slot it fills. -/
def preB (c j : Dev nD) : sProp 𝕄 :=
  iprop(dutyTok ER (dCell j 1 c) 0 c ∗ dutyTok ER (dCell c 0 j) 0 j ∗ rowsPts c j (contrib m c) ∗ ∃ f, slotPts j c f)
/-- What the second exchange's copy to `j` needs: the tokens, a share of the accumulator, the rows it fills. -/
def preD (c j : Dev nD) : sProp 𝕄 :=
  iprop(dutyTok ER (dCell j 3 c) 0 c ∗ dutyTok ER (dCell c 2 j) 0 j ∗ accPts c (accShare j) (accAt m c) ∗ ∃ f, rowsPts j c f)
/-- A copy leaves the credit of its send cell. -/
def postS (a : Fin 4) (c j : Dev nD) : sProp 𝕄 := cred (tallyAt (dCell c a j) () N)
/-- What a wait on cell `(a, j)` needs, and what it brings. -/
def preW (a : Fin 4) (c j : Dev nD) : sProp 𝕄 := iprop(cred (tallyAt (dCell c a j) () N) ∗ atPos ER (dCell c a j) 0 ∅ 0)
def postW (a : Fin 4) (c j : Dev nD) : sProp 𝕄 := iprop(atPos ER (dCell c a j) 1 ∅ 0 ∗ pay m c (some (a, j)) j)

/-! ## What is owed along each loop -/

def owedA (c : Dev nD) (n : ℕ) : CellTallies nD τ sig Unit := owed c (rem c n) (rem c 0) (rem c 0)
def owedB (c : Dev nD) (n : ℕ) : CellTallies nD τ sig Unit := owed c ∅ (rem c n) (rem c 0)
def owedC (c : Dev nD) (_ : ℕ) : CellTallies nD τ sig Unit := owed c ∅ ∅ (rem c 0)
def owedD (c : Dev nD) (n : ℕ) : CellTallies nD τ sig Unit := owed c ∅ ∅ (rem c n)
def owedE (c : Dev nD) (_ : ℕ) : CellTallies nD τ sig Unit := 0

theorem owedA_step (c j : Dev nD) (h : j ≠ c) : owedA c j.val = owedA c (j.val + 1) + tallyAt (barCell j) () 1 := by
  unfold owedA; rw [rem_step c j h]; exact owed_A c j _ _ _ (rem_notMem c j)
theorem owedB_step (c j : Dev nD) (h : j ≠ c) : owedB c j.val = owedB c (j.val + 1) + tallyAt (dCell j 1 c) () N := by
  unfold owedB; rw [rem_step c j h]; exact owed_B c j _ _ _ (rem_notMem c j)
theorem owedD_step (c j : Dev nD) (h : j ≠ c) : owedD c j.val = owedD c (j.val + 1) + tallyAt (dCell j 3 c) () N := by
  unfold owedD; rw [rem_step c j h]; exact owed_D c j _ _ _ (rem_notMem c j)
theorem owedA_skip (c : Dev nD) : owedA c c.val = owedA c (c.val + 1) := by unfold owedA; rw [rem_skip c]
theorem owedB_skip (c : Dev nD) : owedB c c.val = owedB c (c.val + 1) := by unfold owedB; rw [rem_skip c]
theorem owedD_skip (c : Dev nD) : owedD c c.val = owedD c (c.val + 1) := by unfold owedD; rw [rem_skip c]
theorem owedA_all (c : Dev nD) : owedA c 32 = owedB c 0 := by unfold owedA owedB; rw [rem_all]
theorem owedB_all (c : Dev nD) : owedB c 32 = owedC c 0 := by unfold owedB owedC; rw [rem_all]
theorem owedC_all (c : Dev nD) : owedC c 32 = owedD c 0 := rfl
theorem owedD_all (c : Dev nD) : owedD c 32 = owedE c 0 := by unfold owedD owedE; rw [rem_all]; exact owed_none c

/-! ## The steps -/

/-- The signal to `j`'s barrier. -/
theorem signal_step (c j : Dev nD) (h : j ≠ c) (dst : Dev nD) (hd : dst = j) :
    iprop(ctx m K ∗ owesAny c (owedA c j.val) ∗ preA c j)
      ⊢ WP c (semSignalWord dst barS 1#32) fun _ => iprop(owesAny c (owedA c (j.val + 1)) ∗ postA (F := F) c j) := by
  subst hd
  simp only [semSignalWord, Prog.bind_op, Prog.bind_ret, Prog.pure_eq_ret]
  unfold ctx owesAny preA postA
  have hp : (Rd (F := F) m).payload ((dst : Thread nD τ), .reg barS) 0 c = iprop(∃ f, slotPts c dst f) := payload_eq m dst none c
  iintro ⟨⟨#Hr, #Hl⟩, ⟨%W, HO⟩, Ht, Hs⟩
  iapply (Rounds.wp_signal 𝒱₀ ER (Rd m) (c : Thread nD τ) none (dst := (dst : Thread nD τ)) (κ := K (dst, none))
      (d := c) (by show c ∈ (Rd m).duties (kcell (dst, none)) 0; rw [duties_eq]; exact Finset.mem_erase.2 ⟨h.symm, Finset.mem_univ _⟩) ((amount_bar m dst c).trans (by decide)) ()
      (owedA c (dst.val + 1)) (owedA_step c dst h)) $$ [HO Ht Hs]
  · isplitr; · iapply (inv_at m K dst none); iexact Hr
    isplitl [HO]; · iexact HO
    isplitl [Ht]; · iexact Ht
    isplitl [Hs]; · rw [hp]; iexact Hs
    iapply (reached_at m K dst none); iexact Hr
  iintro HO
  rw [wp_ret]; imodintro
  isplitl [HO]; · iexists W; iexact HO
  iempintro

/-- The wait for every other device's signal brings their slots for this device. -/
theorem barrier_step (c : Dev nD) :
    iprop(ctx m K ∗ owesAny c (owedB c 0) ∗ cred (tallyAt (barCell c) () 31) ∗ atPos ER (barCell c) 0 ∅ 0)
      ⊢ WP c (semWaitWord barS 31#32) fun _ => iprop(owesAny c (owedB c 0) ∗ atPos ER (barCell c) 1 ∅ 0
        ∗ bigSep (Finset.univ.erase c) fun j => iprop(∃ f, slotPts j c f)) := by
  unfold semWaitWord ctx owesAny
  iintro ⟨⟨#Hr, #Hl⟩, ⟨%W, HO⟩, Hc, Ha⟩
  iapply (Rounds.wp_wait_rest_token 𝒱₀ ER (Rd m) (c : Thread nD τ) none (κ := K (c, none)) (sm := csem none)
      (wpE_semWait_eq 𝒱₀ (c : Thread nD τ) none Set.univ) (Set.mem_univ _) () (O := owedB c 0) (W := W) (R := 0) (m := 0) (T := ∅)
      (by rw [expect_bar]; decide)) $$ [Hc HO Ha]
  · isplitr; · iapply (inv_at m K c none); iexact Hr
    isplitl [Hc]; · iexact Hc
    isplitl [HO]; · iexact HO
    isplitr; · iapply (mayWait c (csem none) ∅ (rem c 0) (rem c 0) 1 (by rw [kind_csem]; rfl) (Or.inl rfl) (Or.inr (le_refl _)) (by decide)); iexact Hl
    iexact Ha
  iintro ⟨HO, Ha, -, Hp⟩
  ihave Hp := (Entails.of_eq (rest_bar m c)) $$ Hp
  rw [wp_ret]; imodintro
  isplitl [HO]; · iexists _; iexact HO
  isplitl [Ha] <;> iassumption

/-- A wait on one of the device's transfer cells brings the cell's payload. -/
theorem wait_step (c : Dev nD) (a : Fin 4) (j : Dev nD) (h : j ≠ c) {O : CellTallies nD τ sig Unit}
    (hO : (levAts L lv : sProp 𝕄) ⊢ MayWait (c : Thread nD τ) (csem (some (a, j))) () O)
    {sp sp' : Space} {s s' : Shape} {e e' : EltTy} {src : Memref sig .tc sp' s' e'} {dst : Memref sig .tc sp s e} {h1 : src.view.WordExact} {h2 : dst.view.WordExact}
    (hN : dst.view.dmaCredit = N) :
    iprop(ctx m K ∗ owesAny c O ∗ preW a c j)
      ⊢ WP c (Prog.lift (.waitDma2 (dsem a j) src dst h1 h2)) fun _ => iprop(owesAny c O ∗ postW m a c j) := by
  unfold Prog.lift ctx owesAny preW postW
  iintro ⟨⟨#Hr, #Hl⟩, ⟨%W, HO⟩, Hc, Ha⟩
  rw [← hN]
  iapply (Rounds.wp_wait_rest_token 𝒱₀ ER (Rd m) (c : Thread nD τ) none (κ := K (c, some (a, j))) (sm := csem (some (a, j)))
      (wpE_waitDma2_eq 𝒱₀ (c : Thread nD τ) none Set.univ) (Set.mem_univ _) () (O := O) (W := W) (R := 0) (m := 0) (T := ∅)
      (by rw [Nat.zero_add]; exact hN.trans (expect_dma m c a j h).symm)) $$ [Hc HO Ha]
  · isplitr; · iapply (inv_at m K c (some (a, j))); iexact Hr
    isplitl [Hc]; · iexact Hc
    isplitl [HO]; · iexact HO
    isplitr; · iapply hO; iexact Hl
    iexact Ha
  iintro ⟨HO, Ha, -, Hp⟩
  ihave Hp := (Entails.of_eq (rest_dma m c a j h)) $$ Hp
  rw [wp_ret]; imodintro
  isplitl [HO]; · iexists _; iexact HO
  isplitl [Ha] <;> iassumption

/-- The first exchange's copy to `j`: rows `j` of the contribution to slot `c` of device `j`. -/
theorem sendB_step (c j : Dev nD) (h : j ≠ c) (dst : Dev nD) (hd : dst = j)
    (off1 : Fin 1 → ℕ) (h1 : off1 = ![c.val]) (inb1 : ∀ a, off1 a + S1.size a ≤ S32.size a)
    (off2 : Fin 3 → ℕ) (h2 : off2 = ![c.val, 0, 0]) (inb2 : ∀ a, off2 a + S1x8x256.size a ≤ S32x8x256.size a)
    {hsc : ((bM.slice (Rect.unit (s := S32x8x256) off2 S1x8x256.size inb2) (fun _ => rfl)).squeeze S8x256 squeezes_S1x8x256_S8x256 : Memref sig .tc .vmem S8x256 .f32).view.ref.isScScratch = false}
    {hsrc : (rowsM j).view.WordExact}
    {hdst : ((bM.slice (Rect.unit (s := S32x8x256) off2 S1x8x256.size inb2) (fun _ => rfl)).squeeze S8x256 squeezes_S1x8x256_S8x256 : Memref sig .tc .vmem S8x256 .f32).view.WordExact}
    {hsem : DmaTarget.Typed .vmem (.dma ((cc0_scratch3.slice (Rect.unit (s := S32) off1 S1.size inb1)).squeeze S_ squeezes_S1_S_).sem)
      (.remote (Dev.tc dst : Thread nD τ) ((bM.slice (Rect.unit (s := S32x8x256) off2 S1x8x256.size inb2) (fun _ => rfl)).squeeze S8x256 squeezes_S1x8x256_S8x256 : Memref sig .tc .vmem S8x256 .f32) (.dma (dsem 0 j)) hsc)} :
    iprop(ctx m K ∗ owesAny c (owedB c j.val) ∗ preB m c j)
      ⊢ WP c (Prog.lift (.enqueueDma (rowsM j)
            (.remote (Dev.tc dst : Thread nD τ) ((bM.slice (Rect.unit (s := S32x8x256) off2 S1x8x256.size inb2) (fun _ => rfl)).squeeze S8x256 squeezes_S1x8x256_S8x256) (.dma (dsem 0 j)) hsc)
            (.dma ((cc0_scratch3.slice (Rect.unit (s := S32) off1 S1.size inb1)).squeeze S_ squeezes_S1_S_).sem) hsrc hdst hsem)) fun _ => iprop(owesAny c (owedB c (j.val + 1)) ∗ postS (F := F) 0 c j) := by
  subst hd h1 h2
  simp only [Prog.lift, Prog.bind_op, Prog.bind_ret, Prog.pure_eq_ret]
  unfold ctx owesAny preB postS
  iintro ⟨⟨#Hr, #Hl⟩, ⟨%W, HO⟩, Ht1, Ht0, Hrows, ⟨%f, Hslot⟩⟩
  have e := Rounds.wp_send_landing_pointsTo (defs := defs₀ (F := F)) (Γ := []) (Es := Set.univ) 𝒱₀ ER (Rd m) (c : Thread nD τ) none (src := rowsM dst) (c' := (dst : Thread nD τ)) (dst := slotM c)
    (sS := .dma (dsem 0 dst)) (sem := .dma (dsem 1 c)) (hsc := hsc) (hsrc := hsrc) (hdst := hdst) (hsem := hsem)
    (k := fun _ => (Prog.ret ⟨⟩ : Prog (TpuEff nD τ sig (Elt F) Λ₀ .tc) PUnit)) (Q := fun _ => iprop((∃ W, owes (c : Thread nD τ) (owedB c (dst.val + 1)) W) ∗ cred (tallyAt (dCell c 0 dst) () N)))
    (κ₁ := K (c, some (0, dst))) (κ₂ := K (dst, some (1, c)))
    (r₁ := 0) (r₂ := 0) (d₁ := dst) (d₂ := c) (q := fullShare) (fs := contrib m c) (fd := f)
    (by show dst ∈ (Rd m).duties (kcell (c, some (0, dst))) 0; rw [duties_eq, dut_dma c 0 dst h]; exact Finset.mem_singleton_self _)
    (by show c ∈ (Rd m).duties (kcell (dst, some (1, c))) 0; rw [duties_eq, dut_dma dst 1 c h.symm]; exact Finset.mem_singleton_self _)
    () () N rfl (amount_dma m c 0 dst dst) (amount_dma m dst 1 c c) (owedB c (dst.val + 1)) (owedB_step c dst h) (W := W)
    (by show emp ⊢ (Rd m).payload (kcell (c, some (0, dst))) 0 dst; rw [payload_eq]; exact BI.Entails.refl _)
    (by
      show _ ⊢ (Rd m).payload (kcell (dst, some (1, c))) 0 c
      rw [payload_eq]
      show _ ⊢ iprop(slotPts dst c (rbufAt m dst) ∗ rowsPts c dst (contrib m c))
      rw [← slotPts_congr dst c (land_slot m dst c f)]
      unfold slotPts rowsPts
      rw [← slot_set c, ← rows_set dst])
  iapply e $$ [HO Ht1 Ht0 Hrows Hslot]
  · isplitr; · iapply (inv_at m K c (some (0, dst))); iexact Hr
    isplitr; · iapply (inv_at m K dst (some (1, c))); iexact Hr
    isplitl [Hrows]; · unfold rowsPts; rw [← rows_set dst]; iexact Hrows
    isplitl [Hslot]; · unfold slotPts; rw [← slot_set c]; iexact Hslot
    isplitl [HO]; · iexact HO
    isplitl [Ht0]; · iexact Ht0
    isplitr; · iapply (reached_at m K c (some (0, dst))); iexact Hr
    isplitl [Ht1]; · iexact Ht1
    iapply (reached_at m K dst (some (1, c))); iexact Hr
  iintro ⟨Hc, HO⟩
  rw [wp_ret]; imodintro
  isplitl [HO]; · iexists W; iexact HO
  iexact Hc

/-- The second exchange's copy to `j`: the accumulator to rows `c` of device `j`. -/
theorem sendD_step (c j : Dev nD) (h : j ≠ c) (dst : Dev nD) (hd : dst = j)
    (off1 : Fin 1 → ℕ) (h1 : off1 = ![c.val]) (inb1 : ∀ a, off1 a + S1.size a ≤ S32.size a)
    (off2 : Fin 2 → ℕ) (h2 : off2 = ![8 * c.val, 0]) (inb2 : ∀ a, off2 a + S8x256.size a ≤ S256x256.size a)
    {hsc : (oM.slice (Rect.unit (s := S256x256) off2 S8x256.size inb2) (fun _ => rfl) : Memref sig .tc .vmem S8x256 .f32).view.ref.isScScratch = false}
    {hsrc : (aM : Memref sig .tc .vmem S8x256 .f32).view.WordExact}
    {hdst : (oM.slice (Rect.unit (s := S256x256) off2 S8x256.size inb2) (fun _ => rfl) : Memref sig .tc .vmem S8x256 .f32).view.WordExact}
    {hsem : DmaTarget.Typed .vmem (.dma ((cc0_scratch5.slice (Rect.unit (s := S32) off1 S1.size inb1)).squeeze S_ squeezes_S1_S_).sem)
      (.remote (Dev.tc dst : Thread nD τ) (oM.slice (Rect.unit (s := S256x256) off2 S8x256.size inb2) (fun _ => rfl) : Memref sig .tc .vmem S8x256 .f32) (.dma (dsem 2 j)) hsc)} :
    iprop(ctx m K ∗ owesAny c (owedD c j.val) ∗ preD m c j)
      ⊢ WP c (Prog.lift (.enqueueDma aM
            (.remote (Dev.tc dst : Thread nD τ) (oM.slice (Rect.unit (s := S256x256) off2 S8x256.size inb2) (fun _ => rfl)) (.dma (dsem 2 j)) hsc)
            (.dma ((cc0_scratch5.slice (Rect.unit (s := S32) off1 S1.size inb1)).squeeze S_ squeezes_S1_S_).sem) hsrc hdst hsem)) fun _ => iprop(owesAny c (owedD c (j.val + 1)) ∗ postS (F := F) 2 c j) := by
  subst hd h1 h2
  simp only [Prog.lift, Prog.bind_op, Prog.bind_ret, Prog.pure_eq_ret]
  unfold ctx owesAny preD postS
  iintro ⟨⟨#Hr, #Hl⟩, ⟨%W, HO⟩, Ht1, Ht0, Hacc, ⟨%f, Hrows⟩⟩
  have e := Rounds.wp_send_pointsTo (defs := defs₀ (F := F)) (Γ := []) (Es := Set.univ) 𝒱₀ ER (Rd m) (c : Thread nD τ) none (src := aM) (c' := (dst : Thread nD τ)) (dst := rowsM c)
    (sS := .dma (dsem 2 dst)) (sem := .dma (dsem 3 c)) (hsc := hsc) (hsrc := hsrc) (hdst := hdst) (hsem := hsem)
    (k := fun _ => (Prog.ret ⟨⟩ : Prog (TpuEff nD τ sig (Elt F) Λ₀ .tc) PUnit)) (Q := fun _ => iprop((∃ W, owes (c : Thread nD τ) (owedD c (dst.val + 1)) W) ∗ cred (tallyAt (dCell c 2 dst) () N)))
    (κ₁ := K (c, some (2, dst))) (κ₂ := K (dst, some (3, c)))
    (r₁ := 0) (r₂ := 0) (d₁ := dst) (d₂ := c) (q := accShare dst) (fs := accAt m c) (fd := f)
    (by show dst ∈ (Rd m).duties (kcell (c, some (2, dst))) 0; rw [duties_eq, dut_dma c 2 dst h]; exact Finset.mem_singleton_self _)
    (by show c ∈ (Rd m).duties (kcell (dst, some (3, c))) 0; rw [duties_eq, dut_dma dst 3 c h.symm]; exact Finset.mem_singleton_self _)
    () () N rfl (amount_dma m c 2 dst dst) (amount_dma m dst 3 c c) (owedD c (dst.val + 1)) (owedD_step c dst h) (W := W)
    (by
      show _ ⊢ (Rd m).payload (kcell (c, some (2, dst))) 0 dst
      rw [payload_eq]
      show _ ⊢ accPts c (accShare dst) (accAt m c)
      unfold accPts
      rw [View.set_whole])
    (by
      show _ ⊢ (Rd m).payload (kcell (dst, some (3, c))) 0 c
      rw [payload_eq]
      show _ ⊢ rowsPts dst c (outAt m)
      rw [← rowsPts_congr dst c (land_rows m c f)]
      unfold rowsPts
      rw [← rows_set c])
  iapply e $$ [HO Ht1 Ht0 Hacc Hrows]
  · isplitr; · iapply (inv_at m K c (some (2, dst))); iexact Hr
    isplitr; · iapply (inv_at m K dst (some (3, c))); iexact Hr
    isplitl [Hacc]; · unfold accPts; rw [View.set_whole]; iexact Hacc
    isplitl [Hrows]; · unfold rowsPts; rw [← rows_set c]; iexact Hrows
    isplitl [HO]; · iexact HO
    isplitl [Ht0]; · iexact Ht0
    isplitr; · iapply (reached_at m K c (some (2, dst))); iexact Hr
    isplitl [Ht1]; · iexact Ht1
    iapply (reached_at m K dst (some (3, c))); iexact Hr
  iintro ⟨Hc, HO⟩
  rw [wp_ret]; imodintro
  isplitl [HO]; · iexists W; iexact HO
  iexact Hc

end Cert.Moe

end
-- ==== Proof.Blocks.lean ====
/-
# The guarded blocks

Each kind of block the program repeats for every device, stated once for the device's number: what the loop's state is
before it and after it. A block guarded by "not this device" takes one other device across the loop; the two blocks
guarded by "this device" are the device's own copies.
-/
module

public import proofs.«01_k».proof.Proof.Steps

@[expose] public section

set_option maxRecDepth 16384

noncomputable section

namespace Cert.Moe

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

variable (K : Dev nD × CK → ℕ)

/-- The device's number, as the kernel computes it, in the three kinds of offset. -/
theorem off_sem : ∀ c : Dev nD, (![(devW c).toNat] : Fin 1 → ℕ) = ![c.val] := by decide +kernel
theorem off_slot : ∀ c : Dev nD, (![(devW c).toNat, 0, 0] : Fin 3 → ℕ) = ![c.val, 0, 0] := by decide +kernel
theorem off_rows : ∀ c : Dev nD, (![(Scalar.muli (devW c) 8#32).toNat, 0] : Fin 2 → ℕ) = ![8 * c.val, 0] := by decide +kernel

/-! ## The loops' states -/

/-- The signals, come to device `n`. -/
def stA (c : Dev nD) (n : ℕ) : sProp 𝕄 := st m K c (owedA c) (preA c) (postA c) n
/-- What the device's own block of the first exchange works on: its own rows of the contribution, and its own slot,
    filled once the loop has passed `c`. -/
def locB (c : Dev nD) (n : ℕ) : sProp 𝕄 :=
  if c.val < n then iprop(rowsPts c c (contrib m c) ∗ slotPts c c (rbufAt m c)) else iprop(rowsPts c c (contrib m c) ∗ ∃ f, slotPts c c f)
/-- The first exchange, come to device `a` in its own block and to device `n` in its copies. -/
def stB (c : Dev nD) (a n : ℕ) : sProp 𝕄 := iprop(st m K c (owedB c) (preB m c) (postS 0 c) n ∗ locB m c a)
/-- The waits for the first exchange's blocks. -/
def stC (c : Dev nD) (n : ℕ) : sProp 𝕄 := st m K c (owedC c) (preW 1 c) (postW m 1 c) n
/-- What the device's own block of the second exchange works on: its share of the accumulator and its own rows of the
    result, filled once the loop has passed `c`. -/
def locD (c : Dev nD) (n : ℕ) : sProp 𝕄 :=
  if c.val < n then iprop(accPts c (accShare c) (accAt m c) ∗ rowsPts c c (outAt m)) else iprop(accPts c (accShare c) (accAt m c) ∗ ∃ f, rowsPts c c f)
/-- The second exchange. -/
def stD (c : Dev nD) (a n : ℕ) : sProp 𝕄 := iprop(st m K c (owedD c) (preD m c) (postS 2 c) n ∗ locD m c a)
/-- The waits for the second exchange's blocks. -/
def stE (c : Dev nD) (n : ℕ) : sProp 𝕄 := st m K c (owedE c) (preW 3 c) (postW m 3 c) n
/-- The waits for the device's own copies. -/
def stF (c : Dev nD) (n : ℕ) : sProp 𝕄 :=
  st m K c (owedE c) (fun j => iprop(preW 0 c j ∗ preW 2 c j)) (fun j => iprop(postW m 0 c j ∗ postW m 2 c j)) n

/-! ## The guarded blocks, as the program writes them -/

/-- The signal to device `n`. -/
theorem signal_block (c : Dev nD) (n : ℕ) (hn : n < 32) {p : Prop} [Decidable p] {dev : p → Dev nD} (hp : p ↔ c.val ≠ n) (hdev : ∀ h, dev h = ⟨n, hn⟩)
    {β : Type} {k : Prog (TpuEff nD τ sig (Elt F) Λ₀ .tc) β} {X : sProp 𝕄} {Q : β → sProp 𝕄} (hk : iprop(stA m K c (n + 1) ∗ X) ⊢ WP c k Q) :
    iprop(stA m K c n ∗ X) ⊢ WP c (if h : p then (do semSignalWord (dev h) barS 1#32; k) else k) Q :=
  then_rest (loop_block m K c (owedA c) (preA c) (postA c) ⟨n, hn⟩ hp (owedA_skip c) fun h hne => signal_step m K c ⟨n, hn⟩ hne (dev h) (hdev h)) hk

/-- The copy of a block of the contribution to device `n`. -/
theorem sendB_block (c : Dev nD) (a n : ℕ) (hn : n < 32) {p : Prop} [Decidable p] {dev : p → Dev nD} (hp : p ↔ c.val ≠ n) (hdev : ∀ h, dev h = ⟨n, hn⟩)
    {off1 : Fin 1 → ℕ} (h1 : off1 = ![c.val]) {inb1 : p → ∀ a, off1 a + S1.size a ≤ S32.size a}
    {off2 : Fin 3 → ℕ} (h2 : off2 = ![c.val, 0, 0]) {inb2 : p → ∀ a, off2 a + S1x8x256.size a ≤ S32x8x256.size a}
    {hsc : ∀ h : p, ((bM.slice (Rect.unit (s := S32x8x256) off2 S1x8x256.size (inb2 h)) (fun _ => rfl)).squeeze S8x256 squeezes_S1x8x256_S8x256 : Memref sig .tc .vmem S8x256 .f32).view.ref.isScScratch = false}
    {hsrc : p → (rowsM ⟨n, hn⟩).view.WordExact}
    {hdst : ∀ h : p, ((bM.slice (Rect.unit (s := S32x8x256) off2 S1x8x256.size (inb2 h)) (fun _ => rfl)).squeeze S8x256 squeezes_S1x8x256_S8x256 : Memref sig .tc .vmem S8x256 .f32).view.WordExact}
    {hsem : ∀ h : p, DmaTarget.Typed .vmem (.dma ((cc0_scratch3.slice (Rect.unit (s := S32) off1 S1.size (inb1 h))).squeeze S_ squeezes_S1_S_).sem)
      (.remote (Dev.tc (dev h) : Thread nD τ) ((bM.slice (Rect.unit (s := S32x8x256) off2 S1x8x256.size (inb2 h)) (fun _ => rfl)).squeeze S8x256 squeezes_S1x8x256_S8x256 : Memref sig .tc .vmem S8x256 .f32) (.dma (dsem 0 ⟨n, hn⟩)) (hsc h))}
    {β : Type} {k : Prog (TpuEff nD τ sig (Elt F) Λ₀ .tc) β} {X : sProp 𝕄} {Q : β → sProp 𝕄} (hk : iprop(stB m K c a (n + 1) ∗ X) ⊢ WP c k Q) :
    iprop(stB m K c a n ∗ X) ⊢ WP c (if h : p then (do
          Prog.lift (.enqueueDma (rowsM ⟨n, hn⟩)
            (.remote (Dev.tc (dev h) : Thread nD τ) ((bM.slice (Rect.unit (s := S32x8x256) off2 S1x8x256.size (inb2 h)) (fun _ => rfl)).squeeze S8x256 squeezes_S1x8x256_S8x256) (.dma (dsem 0 ⟨n, hn⟩)) (hsc h))
            (.dma ((cc0_scratch3.slice (Rect.unit (s := S32) off1 S1.size (inb1 h))).squeeze S_ squeezes_S1_S_).sem) (hsrc h) (hdst h) (hsem h))
          k) else k) Q :=
  then_rest (with_frame (locB m c a) (loop_block m K c (owedB c) (preB m c) (postS 0 c) ⟨n, hn⟩ hp (owedB_skip c)
    fun h hne => sendB_step m K c ⟨n, hn⟩ hne (dev h) (hdev h) off1 h1 (inb1 h) off2 h2 (inb2 h))) hk

/-- The wait for the block that device `n` sends. -/
theorem waitC_block (c : Dev nD) (n : ℕ) (hn : n < 32) {p : Prop} [Decidable p] (hp : p ↔ c.val ≠ n)
    {h1 : p → (slotM ⟨n, hn⟩).view.WordExact} {h2 : p → (slotM ⟨n, hn⟩).view.WordExact}
    {β : Type} {k : Prog (TpuEff nD τ sig (Elt F) Λ₀ .tc) β} {X : sProp 𝕄} {Q : β → sProp 𝕄} (hk : iprop(stC m K c (n + 1) ∗ X) ⊢ WP c k Q) :
    iprop(stC m K c n ∗ X) ⊢ WP c (if h : p then (do Prog.lift (.waitDma2 (dsem 1 ⟨n, hn⟩) (slotM ⟨n, hn⟩) (slotM ⟨n, hn⟩) (h1 h) (h2 h)); k) else k) Q :=
  then_rest (loop_block m K c (owedC c) (preW 1 c) (postW m 1 c) ⟨n, hn⟩ hp rfl fun h hne => wait_step m K c 1 ⟨n, hn⟩ hne
    (mayWait c _ ∅ ∅ (rem c 0) 2 (by rw [kind_csem]; rfl) (Or.inl rfl) (Or.inl rfl) (le_refl _)) rfl) hk

/-- A device that owes nothing may wait. -/
theorem noOwe (c : Dev nD) (sm : SemLoc sig) (n : ℕ) : (levAts L lv : sProp 𝕄) ⊢ MayWait (c : Thread nD τ) sm () (owedE c n) := by
  unfold owedE
  rw [MayWait_zero]
  iintro -
  iempintro

/-- The copy of the accumulator to device `n`. -/
theorem sendD_block (c : Dev nD) (a n : ℕ) (hn : n < 32) {p : Prop} [Decidable p] {dev : p → Dev nD} (hp : p ↔ c.val ≠ n) (hdev : ∀ h, dev h = ⟨n, hn⟩)
    {off1 : Fin 1 → ℕ} (h1 : off1 = ![c.val]) {inb1 : p → ∀ a, off1 a + S1.size a ≤ S32.size a}
    {off2 : Fin 2 → ℕ} (h2 : off2 = ![8 * c.val, 0]) {inb2 : p → ∀ a, off2 a + S8x256.size a ≤ S256x256.size a}
    {hsc : ∀ h : p, (oM.slice (Rect.unit (s := S256x256) off2 S8x256.size (inb2 h)) (fun _ => rfl) : Memref sig .tc .vmem S8x256 .f32).view.ref.isScScratch = false}
    {hsrc : p → (aM : Memref sig .tc .vmem S8x256 .f32).view.WordExact}
    {hdst : ∀ h : p, (oM.slice (Rect.unit (s := S256x256) off2 S8x256.size (inb2 h)) (fun _ => rfl) : Memref sig .tc .vmem S8x256 .f32).view.WordExact}
    {hsem : ∀ h : p, DmaTarget.Typed .vmem (.dma ((cc0_scratch5.slice (Rect.unit (s := S32) off1 S1.size (inb1 h))).squeeze S_ squeezes_S1_S_).sem)
      (.remote (Dev.tc (dev h) : Thread nD τ) (oM.slice (Rect.unit (s := S256x256) off2 S8x256.size (inb2 h)) (fun _ => rfl) : Memref sig .tc .vmem S8x256 .f32) (.dma (dsem 2 ⟨n, hn⟩)) (hsc h))}
    {β : Type} {k : Prog (TpuEff nD τ sig (Elt F) Λ₀ .tc) β} {X : sProp 𝕄} {Q : β → sProp 𝕄} (hk : iprop(stD m K c a (n + 1) ∗ X) ⊢ WP c k Q) :
    iprop(stD m K c a n ∗ X) ⊢ WP c (if h : p then (do
          Prog.lift (.enqueueDma aM
            (.remote (Dev.tc (dev h) : Thread nD τ) (oM.slice (Rect.unit (s := S256x256) off2 S8x256.size (inb2 h)) (fun _ => rfl)) (.dma (dsem 2 ⟨n, hn⟩)) (hsc h))
            (.dma ((cc0_scratch5.slice (Rect.unit (s := S32) off1 S1.size (inb1 h))).squeeze S_ squeezes_S1_S_).sem) (hsrc h) (hdst h) (hsem h))
          k) else k) Q :=
  then_rest (with_frame (locD m c a) (loop_block m K c (owedD c) (preD m c) (postS 2 c) ⟨n, hn⟩ hp (owedD_skip c)
    fun h hne => sendD_step m K c ⟨n, hn⟩ hne (dev h) (hdev h) off1 h1 (inb1 h) off2 h2 (inb2 h))) hk

/-- The wait for device `n`'s accumulator. -/
theorem waitE_block (c : Dev nD) (n : ℕ) (hn : n < 32) {p : Prop} [Decidable p] (hp : p ↔ c.val ≠ n)
    {h1 : p → (rowsM ⟨n, hn⟩).view.WordExact} {h2 : p → (rowsM ⟨n, hn⟩).view.WordExact}
    {β : Type} {k : Prog (TpuEff nD τ sig (Elt F) Λ₀ .tc) β} {X : sProp 𝕄} {Q : β → sProp 𝕄} (hk : iprop(stE m K c (n + 1) ∗ X) ⊢ WP c k Q) :
    iprop(stE m K c n ∗ X) ⊢ WP c (if h : p then (do Prog.lift (.waitDma2 (dsem 3 ⟨n, hn⟩) (rowsM ⟨n, hn⟩) (rowsM ⟨n, hn⟩) (h1 h) (h2 h)); k) else k) Q :=
  then_rest (loop_block m K c (owedE c) (preW 3 c) (postW m 3 c) ⟨n, hn⟩ hp rfl fun h hne => wait_step m K c 3 ⟨n, hn⟩ hne (noOwe c _ n) rfl) hk

/-- The waits for the device's two copies to device `n` to have left. -/
theorem waitF_block (c : Dev nD) (n : ℕ) (hn : n < 32) {p : Prop} [Decidable p] (hp : p ↔ c.val ≠ n)
    {h1 : p → (slotM ⟨n, hn⟩).view.WordExact} {h2 : p → (rowsM ⟨n, hn⟩).view.WordExact}
    {h3 : p → (rowsM ⟨n, hn⟩).view.WordExact} {h4 : p → (aM : Memref sig .tc .vmem S8x256 .f32).view.WordExact}
    {β : Type} {k : Prog (TpuEff nD τ sig (Elt F) Λ₀ .tc) β} {X : sProp 𝕄} {Q : β → sProp 𝕄} (hk : iprop(stF m K c (n + 1) ∗ X) ⊢ WP c k Q) :
    iprop(stF m K c n ∗ X) ⊢ WP c (if h : p then (do
        Prog.lift (.waitDma2 (dsem 0 ⟨n, hn⟩) (slotM ⟨n, hn⟩) (rowsM ⟨n, hn⟩) (h1 h) (h2 h))
        Prog.lift (.waitDma2 (dsem 2 ⟨n, hn⟩) (rowsM ⟨n, hn⟩) aM (h3 h) (h4 h))
        k) else k) Q := by
  refine then_rest (A := fun h => Prog.lift (.waitDma2 (dsem 0 ⟨n, hn⟩) (slotM ⟨n, hn⟩) (rowsM ⟨n, hn⟩) (h1 h) (h2 h))
    >>= fun _ => Prog.lift (.waitDma2 (dsem 2 ⟨n, hn⟩) (rowsM ⟨n, hn⟩) aM (h3 h) (h4 h))) ?_ hk
  refine loop_block m K c (owedE c) _ _ ⟨n, hn⟩ hp rfl fun h hne => ?_
  have e1 : iprop(ctx m K ∗ owesAny c (owedE c n) ∗ (preW 0 c ⟨n, hn⟩ ∗ preW 2 c ⟨n, hn⟩))
      ⊢ iprop((ctx m K ∗ owesAny c (owedE c n) ∗ preW 0 c ⟨n, hn⟩) ∗ (ctx m K ∗ preW 2 c ⟨n, hn⟩)) := by
    iintro ⟨#Hc, HO, H0, H2⟩
    isplitl [HO H0]
    · isplitr; · iexact Hc
      isplitl [HO] <;> iassumption
    isplitr; · iexact Hc
    iexact H2
  have e2 : iprop((owesAny c (owedE c n) ∗ postW m 0 c ⟨n, hn⟩) ∗ (ctx m K ∗ preW 2 c ⟨n, hn⟩))
      ⊢ iprop((ctx m K ∗ owesAny c (owedE c n) ∗ preW 2 c ⟨n, hn⟩) ∗ postW m 0 c ⟨n, hn⟩) := by
    iintro ⟨⟨HO, H0⟩, #Hc, H2⟩
    isplitl [HO H2]
    · isplitr; · iexact Hc
      isplitl [HO] <;> iassumption
    iexact H0
  have e3 : iprop((owesAny c (owedE c n) ∗ postW m 2 c ⟨n, hn⟩) ∗ postW m 0 c ⟨n, hn⟩)
      ⊢ iprop(owesAny c (owedE c n) ∗ (postW m 0 c ⟨n, hn⟩ ∗ postW m 2 c ⟨n, hn⟩)) := by
    iintro ⟨⟨HO, H2⟩, H0⟩
    isplitl [HO]; · iexact HO
    isplitl [H0] <;> iassumption
  exact seq0 (e1.trans (with_frame _ (wait_step m K c 0 ⟨n, hn⟩ hne (noOwe c _ n) rfl)))
    (e2.trans ((with_frame _ (wait_step m K c 2 ⟨n, hn⟩ hne (noOwe c _ n) rfl)).trans (wp_mono _ _ _ fun _ => e3)))

/-! ## The device's own blocks -/

/-- A load of a group of rows, or of a slot, reads entries of it only. -/
theorem rows_load_sub (j : Dev nD) : (oM : Memref sig .tc .vmem S256x256 .f32).view.setOn (rowsR j).toLoadRect.set ⊆ (rowsR j).set := by
  have h := (rows_access_set j).subset
  rwa [View.set_slice] at h
theorem slot_load_sub (j : Dev nD) : (bM : Memref sig .tc .vmem S32x8x256 .f32).view.setOn (slotR j).toLoadRect.set ⊆ (slotR j).set := by
  have h := (slot_access_set j).subset
  rwa [View.set_slice] at h

/-- The device's own block of the first exchange: its own rows, copied to its own slot. -/
theorem localB_block (c : Dev nD) (n t : ℕ) (hn : n < 32) {p : Prop} [Decidable p] (hp : p ↔ c.val = n)
    {h1 : p → (oM : Memref sig .tc .vmem S256x256 .f32).view.LoadsAt (rowsR ⟨n, hn⟩).toLoadRect}
    {h2 : p → (bM : Memref sig .tc .vmem S32x8x256 .f32).view.LoadsAt (slotR ⟨n, hn⟩).toLoadRect}
    {h3 : p → ((bM : Memref sig .tc .vmem S32x8x256 .f32).access (slotR ⟨n, hn⟩)).Stores Finset.univ}
    {h4 : p → (Finset.univ : Finset (slotR ⟨n, hn⟩).shape.Idx) = Finset.univ ∨ ∀ a, (slotR ⟨n, hn⟩).stride a = 1}
    {β : Type} {k : Prog (TpuEff nD τ sig (Elt F) Λ₀ .tc) β} {X : sProp 𝕄} {Q : β → sProp 𝕄} (hk : iprop(stB m K c (n + 1) t ∗ X) ⊢ WP c k Q) :
    iprop(stB m K c n t ∗ X) ⊢ WP c (if h : p then (do
        let v : Vec F S8x256 .f32 ← Prog.lift (.load oM (rowsR ⟨n, hn⟩).toLoadRect (h1 h))
        let _ : Vec F S1x8x256 .f32 ← Prog.lift (.load bM (slotR ⟨n, hn⟩).toLoadRect (h2 h))
        Prog.lift (.store bM (slotR ⟨n, hn⟩) (k0_pay5 v) Finset.univ (h3 h) (h4 h))
        k) else k) Q := by
  refine then_rest (A := fun h => Prog.lift (.load oM (rowsR ⟨n, hn⟩).toLoadRect (h1 h)) >>= fun v : Vec F S8x256 .f32 =>
    Prog.lift (.load bM (slotR ⟨n, hn⟩).toLoadRect (h2 h)) >>= fun _ : Vec F S1x8x256 .f32 =>
    Prog.lift (.store bM (slotR ⟨n, hn⟩) (k0_pay5 v) Finset.univ (h3 h) (h4 h))) ?_ hk
  unfold stB
  refine cond_block (n := n) hp (fun h hq => ?_) (fun hq => ?_)
  · subst hq
    have e1 : locB m c c.val = iprop(rowsPts c c (contrib m c) ∗ ∃ f, slotPts c c f) := if_neg (lt_irrefl _)
    have e2 : locB m c (c.val + 1) = iprop(rowsPts c c (contrib m c) ∗ slotPts c c (rbufAt m c)) := if_pos (Nat.lt_succ_self _)
    rw [e1, e2]
    simp only [Prog.lift, Prog.bind_op, Prog.bind_ret, Prog.pure_eq_ret]
    unfold rowsPts
    iintro ⟨Hst, Hrows, ⟨%f, Hslot⟩⟩
    iapply (wp_load 𝒱₀ (c : Thread nD τ) none Set.univ (m := oM) (rows_load_sub c)) $$ Hrows; iintro Hrows
    unfold slotPts
    iapply (wp_load 𝒱₀ (c : Thread nD τ) none Set.univ (m := bM) (slot_load_sub c)) $$ Hslot; iintro Hslot
    iapply (wp_store 𝒱₀ (c : Thread nD τ) none Set.univ (m := bM) (r := slotR c) (Mk := Finset.univ) (slot_access_set c).subset) $$ Hslot; iintro Hslot
    rw [wp_ret]; imodintro
    isplitl [Hst]; · iexact Hst
    isplitl [Hrows]; · iexact Hrows
    iapply (Entails.of_eq (pointsTo_congr (own_slot m c f)))
    iexact Hslot
  · have e : locB m c n = locB m c (n + 1) := by
      unfold locB
      by_cases h : c.val < n
      · rw [if_pos h, if_pos (by omega)]
      · rw [if_neg h, if_neg (by omega)]
    rw [e]

/-- The device's own block of the second exchange: the accumulator, copied to its own rows. -/
theorem localD_block (c : Dev nD) (n t : ℕ) (hn : n < 32) {p : Prop} [Decidable p] (hp : p ↔ c.val = n)
    {h1 : p → (aM : Memref sig .tc .vmem S8x256 .f32).view.LoadsAt (Rect.unit (s := S8x256) ![0, 0] S8x256.size inb_S8x256_S8x256_0_0).toLoadRect}
    {h2 : p → (oM : Memref sig .tc .vmem S256x256 .f32).view.LoadsAt (rowsR ⟨n, hn⟩).toLoadRect}
    {h3 : p → ((oM : Memref sig .tc .vmem S256x256 .f32).access (rowsR ⟨n, hn⟩)).Stores Finset.univ}
    {h4 : p → (Finset.univ : Finset (rowsR ⟨n, hn⟩).shape.Idx) = Finset.univ ∨ ∀ a, (rowsR ⟨n, hn⟩).stride a = 1}
    {β : Type} {k : Prog (TpuEff nD τ sig (Elt F) Λ₀ .tc) β} {X : sProp 𝕄} {Q : β → sProp 𝕄} (hk : iprop(stD m K c (n + 1) t ∗ X) ⊢ WP c k Q) :
    iprop(stD m K c n t ∗ X) ⊢ WP c (if h : p then (do
        let v : Vec F S8x256 .f32 ← Prog.lift (.load aM (Rect.unit (s := S8x256) ![0, 0] S8x256.size inb_S8x256_S8x256_0_0).toLoadRect (h1 h))
        let _ : Vec F S8x256 .f32 ← Prog.lift (.load oM (rowsR ⟨n, hn⟩).toLoadRect (h2 h))
        Prog.lift (.store oM (rowsR ⟨n, hn⟩) v Finset.univ (h3 h) (h4 h))
        k) else k) Q := by
  refine then_rest (A := fun h => Prog.lift (.load aM (Rect.unit (s := S8x256) ![0, 0] S8x256.size inb_S8x256_S8x256_0_0).toLoadRect (h1 h)) >>= fun v : Vec F S8x256 .f32 =>
    Prog.lift (.load oM (rowsR ⟨n, hn⟩).toLoadRect (h2 h)) >>= fun _ : Vec F S8x256 .f32 =>
    Prog.lift (.store oM (rowsR ⟨n, hn⟩) v Finset.univ (h3 h) (h4 h))) ?_ hk
  unfold stD
  refine cond_block (n := n) hp (fun h hq => ?_) (fun hq => ?_)
  · subst hq
    have e1 : locD m c c.val = iprop(accPts c (accShare c) (accAt m c) ∗ ∃ f, rowsPts c c f) := if_neg (lt_irrefl _)
    have e2 : locD m c (c.val + 1) = iprop(accPts c (accShare c) (accAt m c) ∗ rowsPts c c (outAt m)) := if_pos (Nat.lt_succ_self _)
    rw [e1, e2]
    simp only [Prog.lift, Prog.bind_op, Prog.bind_ret, Prog.pure_eq_ret]
    unfold accPts
    iintro ⟨Hst, Hacc, ⟨%f, Hrows⟩⟩
    iapply (wp_load 𝒱₀ (c : Thread nD τ) none Set.univ (m := aM) (Finset.subset_univ _)) $$ Hacc; iintro Hacc
    rw [load_acc]
    unfold rowsPts
    iapply (wp_load 𝒱₀ (c : Thread nD τ) none Set.univ (m := oM) (rows_load_sub c)) $$ Hrows; iintro Hrows
    iapply (wp_store 𝒱₀ (c : Thread nD τ) none Set.univ (m := oM) (r := rowsR c) (Mk := Finset.univ) (rows_access_set c).subset) $$ Hrows; iintro Hrows
    rw [wp_ret]; imodintro
    isplitl [Hst]; · iexact Hst
    isplitl [Hacc]; · iexact Hacc
    iapply (Entails.of_eq (pointsTo_congr (own_rows m c f)))
    iexact Hrows
  · have e : locD m c n = locD m c (n + 1) := by
      unfold locD
      by_cases h : c.val < n
      · rw [if_pos h, if_pos (by omega)]
      · rw [if_neg h, if_neg (by omega)]
    rw [e]

end Cert.Moe

end
-- ==== Proof.Parts.lean ====
/-
# The program's parts: what they are run on, and what is held between its loops
-/
module

public import proofs.«01_k».proof.Proof.Blocks

@[expose] public section

set_option maxRecDepth 16384

noncomputable section

namespace Cert.Moe

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

variable (K : Dev nD × CK → ℕ)

/-! ## The kernel's buffers, and pieces that return a test -/

/-- A part of the program on the kernel's buffers and semaphores. -/
abbrev onBufs {β : Sort*}
    (f : ∀ (arg0 : Memref sig .tc .vmem S256x128 .f32) (_ : arg0.IsWhole) (arg1 : Memref sig .tc .vmem S256x1 .i32) (_ : arg1.IsWhole)
      (arg2 : Memref sig .tc .vmem S2x128x256 .f32) (_ : arg2.IsWhole) (arg3 : Memref sig .tc .vmem S256x256 .f32) (_ : arg3.IsWhole)
      (arg4 : Memref sig .tc .vmem S32x8x256 .f32) (_ : arg4.IsWhole) (arg5 : Memref sig .tc .vmem S8x256 .f32) (_ : arg5.IsWhole)
      (_ _ _ _ : DmaSems sig S32), β) : β :=
  f xM (Memref.isWhole_whole _) rM (Memref.isWhole_whole _) wM (Memref.isWhole_whole _) oM (Memref.isWhole_whole _)
    bM (Memref.isWhole_whole _) aM (Memref.isWhole_whole _) cc0_scratch2 cc0_scratch3 cc0_scratch4 cc0_scratch5

/-- The barrier's semaphore, as an array of one. -/
abbrev barA : Sems sig S_ := SemArray.scalar (sig.barrier 0 rfl)

/-- The test of the device's number against `n`, which a part of the program ends with and the next begins with. -/
abbrev test (c : Dev nD) (n : ℕ) : BitVec 1 := Scalar.cmpi .ne (devW c) (BitVec.ofNat 32 n)

/-- A piece that returns `a` and leaves `S`. -/
abbrev rets {α : Type} (a : α) (S : sProp 𝕄) : α → sProp 𝕄 := fun r => iprop(⌜r = a⌝ ∗ S)

/-- The end of a piece that returns `a`; -/
theorem done_rets {c : Dev nD} {α : Type} {a : α} {P : sProp 𝕄} : P ⊢ WP c (pure a) (rets a P) := by
  refine done ?_
  iintro H
  isplitr; · ipureintro; rfl
  iexact H
/-- such a piece and the rest. -/
theorem seq_rets {c : Dev nD} {α β : Type} {a : α} {e : Prog (TpuEff nD τ sig (Elt F) Λ₀ .tc) α} {k : α → Prog (TpuEff nD τ sig (Elt F) Λ₀ .tc) β}
    {P S : sProp 𝕄} {Q : β → sProp 𝕄} (h : P ⊢ WP c e (rets a S)) (hk : S ⊢ WP c (k a) Q) : P ⊢ WP c (e >>= k) Q := by
  refine seq h fun r => ?_
  iintro ⟨%hr, H⟩
  subst hr
  iapply hk
  iexact H

/-! ## The conditions -/

/-- The kernel's test that its device is not number `n`, -/
theorem cond_ne (c : Dev nD) (n : ℕ) (hn : n < 32) :
    (Scalar.cmpi .ne (Scalar.extui (Scalar.cmpi .ne (devW c) (BitVec.ofNat 32 n)) : BitVec 32) 0#32 = 1#1) ↔ c.val ≠ n := by
  have h : ∀ c n : Fin 32, (Scalar.cmpi .ne (Scalar.extui (Scalar.cmpi .ne (devW c) (BitVec.ofNat 32 n.val)) : BitVec 32) 0#32 = 1#1) ↔ c.val ≠ n.val := by
    decide +kernel
  exact h c ⟨n, hn⟩
/-- and that it is. -/
theorem cond_eq (c : Dev nD) (n : ℕ) (hn : n < 32) :
    (Scalar.cmpi .ne (Scalar.extui (Scalar.cmpi .eq (devW c) (BitVec.ofNat 32 n)) : BitVec 32) 0#32 = 1#1) ↔ c.val = n := by
  have h : ∀ c n : Fin 32, (Scalar.cmpi .ne (Scalar.extui (Scalar.cmpi .eq (devW c) (BitVec.ofNat 32 n.val)) : BitVec 32) 0#32 = 1#1) ↔ c.val = n.val := by
    decide +kernel
  exact h c ⟨n, hn⟩

/-! ## What a device holds between the loops -/

/-- One of something for every other device. -/
abbrev oth (c : Dev nD) (Φ : Dev nD → sProp 𝕄) : sProp 𝕄 := bigSep (Finset.univ.erase c) Φ

/-- One for every device is one for every other device and one for the device itself. -/
theorem oth_own (c : Dev nD) (Φ : Dev nD → sProp 𝕄) : bigSep Finset.univ Φ = iprop(Φ c ∗ oth c Φ) := by
  have e : (Finset.univ : Finset (Dev nD)) = insert c (Finset.univ.erase c) := (Finset.insert_erase (Finset.mem_univ c)).symm
  rw [e]
  exact bigSep_insert (Finset.notMem_erase c _)

/-- The staged tokens, routing and weights. -/
def inp (c : Dev nD) : sProp 𝕄 :=
  iprop(((c : Thread nD τ).loc cc0_stg0_0 ↦{fullShare} xAt m c) ∗ ((c : Thread nD τ).loc cc0_stg1_0 ↦{fullShare} rAt m c)
    ∗ ((c : Thread nD τ).loc cc0_stg2_0 ↦{fullShare} wAt m c))
/-- The whole result, and the whole receive buffer, holding `f`. -/
def outPts (c : Dev nD) (f : Vec F S256x256 .f32) : sProp 𝕄 := (c : Thread nD τ).loc cc0_stg3_0 ↦{fullShare} f
def bufPts (c : Dev nD) (f : Vec F S32x8x256 .f32) : sProp 𝕄 := (c : Thread nD τ).loc cc0_scratch0 ↦{fullShare} f
/-- What the wait on the barrier needs. -/
def barW (c : Dev nD) : sProp 𝕄 := iprop(cred (tallyAt (barCell c) () 31) ∗ atPos ER (barCell c) 0 ∅ 0)
/-- The device's position, at round `r`, on its cells of family `a`. -/
def ats (c : Dev nD) (a : Fin 4) (r : ℕ) : sProp 𝕄 := oth c fun j => atPos ER (dCell c a j) r ∅ 0
/-- The tokens of the duties the first exchange's copies discharge, and the second's. -/
def tokB (c : Dev nD) : sProp 𝕄 := oth c fun j => iprop(dutyTok ER (dCell j 1 c) 0 c ∗ dutyTok ER (dCell c 0 j) 0 j)
def tokD (c : Dev nD) : sProp 𝕄 := oth c fun j => iprop(dutyTok ER (dCell j 3 c) 0 c ∗ dutyTok ER (dCell c 2 j) 0 j)
/-- What the wait on the barrier leaves. -/
def pastBar (c : Dev nD) : sProp 𝕄 :=
  iprop((ctx m K ∗ owesAny c (owedB c 0)) ∗ atPos ER (barCell c) 1 ∅ 0 ∗ oth c fun j => iprop(∃ f, slotPts j c f))
/-- What the first exchange leaves: the receive buffer full, and the rows of every device that this device is to fill. -/
def pastC (c : Dev nD) : sProp 𝕄 :=
  iprop((ctx m K ∗ owesAny c (owedD c 0)) ∗ rowsPts c c (contrib m c) ∗ oth c fun j => rowsPts j c (contrib m j))

/-! ## From one loop to the next -/

/-- A loop's end, and its start. -/
theorem st_end (c : Dev nD) (Of : ℕ → CellTallies nD τ sig Unit) (Pre Post : Dev nD → sProp 𝕄) :
    st m K c Of Pre Post 32 ⊢ iprop((ctx m K ∗ owesAny c (Of 32)) ∗ oth c Post) := by
  unfold st
  iintro ⟨#Hc, HO, Hl⟩
  ihave Hl := (loop_all c Pre Post) $$ Hl
  isplitr [Hl]
  · isplitr; · iexact Hc
    iexact HO
  iexact Hl
theorem st_start (c : Dev nD) (Of : ℕ → CellTallies nD τ sig Unit) (Pre Post : Dev nD → sProp 𝕄) :
    iprop((ctx m K ∗ owesAny c (Of 0)) ∗ oth c Pre) ⊢ st m K c Of Pre Post 0 := by
  unfold st
  iintro ⟨⟨#Hc, HO⟩, Hl⟩
  ihave Hl := (loop_zero c Pre Post) $$ Hl
  isplitr; · iexact Hc
  isplitl [HO]; · iexact HO
  iexact Hl

/-- After the signals, the wait on the barrier. -/
theorem barrier_then (c : Dev nD) (X : sProp 𝕄) :
    iprop(stA m K c 32 ∗ (barW c ∗ X)) ⊢ WP c (semWaitWord barS 31#32) fun _ => iprop(pastBar m K c ∗ X) := by
  have h1 : iprop(stA m K c 32 ∗ (barW c ∗ X))
      ⊢ iprop((ctx m K ∗ owesAny c (owedB c 0) ∗ cred (tallyAt (barCell c) () 31) ∗ atPos ER (barCell c) 0 ∅ 0) ∗ (ctx m K ∗ X)) := by
    unfold stA barW
    iintro ⟨Hs, ⟨Hb, Ha⟩, HX⟩
    ihave Hs := (st_end m K c (owedA c) (preA c) (postA c)) $$ Hs
    icases Hs with ⟨⟨#Hc, HO⟩, -⟩
    rw [owedA_all]
    isplitr [HX]
    · isplitr; · iexact Hc
      isplitl [HO]; · iexact HO
      isplitl [Hb] <;> iassumption
    isplitr; · iexact Hc
    iexact HX
  refine h1.trans ((with_frame _ (barrier_step m K c)).trans (wp_mono _ _ _ fun _ => ?_))
  unfold pastBar
  iintro ⟨⟨HO, Ha, Hs⟩, #Hc, HX⟩
  isplitr [HX]
  · isplitl [HO]
    · isplitr; · iexact Hc
      iexact HO
    isplitl [Ha] <;> iassumption
  iexact HX

/-- The first exchange's start: the contribution's rows, the tokens and the peers' slots go to the copies; the device's own
    rows and slot to its own block. -/
theorem startB (c : Dev nD) (X : sProp 𝕄) :
    iprop(pastBar m K c ∗ (outPts c (contrib m c) ∗ tokB c ∗ (∃ f, slotPts c c f) ∗ X))
      ⊢ iprop(stB m K c 0 0 ∗ (atPos ER (barCell c) 1 ∅ 0 ∗ X)) := by
  have e0 : locB m c 0 = iprop(rowsPts c c (contrib m c) ∗ ∃ f, slotPts c c f) := if_neg (Nat.not_lt_zero _)
  have e1 : (outPts c (contrib m c) : sProp 𝕄) = iprop(rowsPts c c (contrib m c) ∗ oth c fun j => rowsPts c j (contrib m c)) :=
    (rows_split c _).trans (oth_own c _)
  have e2 : iprop(tokB c ∗ (oth c fun j => rowsPts c j (contrib m c)) ∗ oth c fun j => iprop(∃ f, slotPts j c f)) ⊢ oth c (preB m c) := by
    unfold tokB
    rw [← bigSep_sep', ← bigSep_sep']
    refine bigSep_mono fun j _ => (?_ : (iprop((dutyTok ER (dCell j 1 c) 0 c ∗ dutyTok ER (dCell c 0 j) 0 j) ∗ rowsPts c j (contrib m c)
      ∗ ∃ f, slotPts j c f) : sProp 𝕄) ⊢ _)
    unfold preB
    iintro ⟨⟨H1, H2⟩, H3, H4⟩
    isplitl [H1]; · iexact H1
    isplitl [H2]; · iexact H2
    isplitl [H3] <;> iassumption
  rw [e1]
  unfold stB pastBar
  rw [e0]
  iintro ⟨⟨Hc, Ha, Hs⟩, ⟨Hr, Hrs⟩, Ht, Hsl, HX⟩
  ihave Hp := e2 $$ [Ht Hrs Hs]
  · isplitl [Ht]; · iexact Ht
    isplitl [Hrs] <;> iassumption
  isplitr [Ha HX]
  · isplitr [Hr Hsl]
    · iapply (st_start m K c (owedB c) (preB m c) (postS 0 c))
      isplitl [Hc] <;> iassumption
    isplitl [Hr] <;> iassumption
  isplitl [Ha] <;> iassumption

/-- From the first exchange's copies to its waits. -/
theorem startC (c : Dev nD) (X : sProp 𝕄) :
    iprop(stB m K c 32 32 ∗ (oth c (preW 1 c) ∗ X)) ⊢ iprop(stC m K c 0 ∗ (locB m c 32 ∗ oth c (postS 0 c) ∗ X)) := by
  unfold stB stC
  iintro ⟨⟨Hs, Hl⟩, Hw, HX⟩
  ihave Hs := (st_end m K c (owedB c) (preB m c) (postS 0 c)) $$ Hs
  rw [owedB_all]
  icases Hs with ⟨Hc, Hp⟩
  isplitl [Hc Hw]
  · iapply (st_start m K c (owedC c) (preW 1 c) (postW m 1 c))
    isplitl [Hc] <;> iassumption
  isplitl [Hl]; · iexact Hl
  isplitl [Hp] <;> iassumption

/-- After the waits the receive buffer is full. -/
theorem endC (c : Dev nD) (X : sProp 𝕄) :
    iprop(stC m K c 32 ∗ (locB m c 32 ∗ X)) ⊢ iprop(bufPts c (rbufAt m c) ∗ (pastC m K c ∗ ats c 1 1 ∗ X)) := by
  have e0 : locB m c 32 = iprop(rowsPts c c (contrib m c) ∗ slotPts c c (rbufAt m c)) := if_pos c.isLt
  have e1 : (bufPts c (rbufAt m c) : sProp 𝕄) = iprop(slotPts c c (rbufAt m c) ∗ oth c fun j => slotPts c j (rbufAt m c)) :=
    (slots_split c _).trans (oth_own c _)
  have e2 : oth c (postW m 1 c) ⊢ iprop(ats c 1 1 ∗ (oth c fun j => slotPts c j (rbufAt m c)) ∗ oth c fun j => rowsPts j c (contrib m j)) := by
    unfold ats
    rw [← bigSep_sep', ← bigSep_sep']
    exact bigSep_mono fun j _ => BI.Entails.refl _
  rw [e0, e1]
  unfold stC pastC
  iintro ⟨Hs, ⟨Hr, Hsl⟩, HX⟩
  ihave Hs := (st_end m K c (owedC c) (preW 1 c) (postW m 1 c)) $$ Hs
  rw [owedC_all]
  icases Hs with ⟨Hc, Hp⟩
  ihave Hp := e2 $$ Hp
  icases Hp with ⟨Ha, Hss, Hrs⟩
  isplitl [Hsl Hss]
  · isplitl [Hsl] <;> iassumption
  isplitl [Hc Hr Hrs]
  · isplitl [Hc]; · iexact Hc
    isplitl [Hr] <;> iassumption
  isplitl [Ha] <;> iassumption

/-- The second exchange's start: a share of the accumulator, the tokens and the peers' rows for every copy. -/
theorem startD (c : Dev nD) (X : sProp 𝕄) :
    iprop(pastC m K c ∗ (accPts c fullShare (accAt m c) ∗ tokD c ∗ X)) ⊢ iprop(stD m K c 0 0 ∗ X) := by
  have e0 : locD m c 0 = iprop(accPts c (accShare c) (accAt m c) ∗ ∃ f, rowsPts c c f) := if_neg (Nat.not_lt_zero _)
  have e1 : (accPts c fullShare (accAt m c) : sProp 𝕄) = iprop(accPts c (accShare c) (accAt m c) ∗ oth c fun j => accPts c (accShare j) (accAt m c)) :=
    (acc_split c _).trans (oth_own c _)
  have e2 : iprop(tokD c ∗ (oth c fun j => accPts c (accShare j) (accAt m c)) ∗ oth c fun j => rowsPts j c (contrib m j)) ⊢ oth c (preD m c) := by
    unfold tokD
    rw [← bigSep_sep', ← bigSep_sep']
    refine bigSep_mono fun j _ => (?_ : (iprop((dutyTok ER (dCell j 3 c) 0 c ∗ dutyTok ER (dCell c 2 j) 0 j) ∗ accPts c (accShare j) (accAt m c)
      ∗ rowsPts j c (contrib m j)) : sProp 𝕄) ⊢ _)
    unfold preD
    iintro ⟨⟨H1, H2⟩, H3, H4⟩
    isplitl [H1]; · iexact H1
    isplitl [H2]; · iexact H2
    isplitl [H3]; · iexact H3
    iexists _; iexact H4
  rw [e1]
  unfold stD pastC
  rw [e0]
  iintro ⟨⟨Hc, Hr, Hrs⟩, ⟨Ha, Has⟩, Ht, HX⟩
  ihave Hp := e2 $$ [Ht Has Hrs]
  · isplitl [Ht]; · iexact Ht
    isplitl [Has] <;> iassumption
  isplitr [HX]
  · isplitr [Ha Hr]
    · iapply (st_start m K c (owedD c) (preD m c) (postS 2 c))
      isplitl [Hc] <;> iassumption
    isplitl [Ha]; · iexact Ha
    iexists _; iexact Hr
  iexact HX

/-- From the second exchange's copies to its waits; -/
theorem startE (c : Dev nD) (X : sProp 𝕄) :
    iprop(stD m K c 32 32 ∗ (oth c (preW 3 c) ∗ X)) ⊢ iprop(stE m K c 0 ∗ (locD m c 32 ∗ oth c (postS 2 c) ∗ X)) := by
  unfold stD stE
  iintro ⟨⟨Hs, Hl⟩, Hw, HX⟩
  ihave Hs := (st_end m K c (owedD c) (preD m c) (postS 2 c)) $$ Hs
  rw [owedD_all]
  icases Hs with ⟨Hc, Hp⟩
  isplitl [Hc Hw]
  · iapply (st_start m K c (owedE c) (preW 3 c) (postW m 3 c))
    isplitl [Hc] <;> iassumption
  isplitl [Hl]; · iexact Hl
  isplitl [Hp] <;> iassumption

/-- and to the waits for the device's own copies. -/
theorem startF (c : Dev nD) (X : sProp 𝕄) :
    iprop(stE m K c 32 ∗ ((oth c (postS 0 c) ∗ oth c (postS 2 c) ∗ ats c 0 0 ∗ ats c 2 0) ∗ X)) ⊢ iprop(stF m K c 0 ∗ (oth c (postW m 3 c) ∗ X)) := by
  have e2 : iprop(oth c (postS 0 c) ∗ oth c (postS 2 c) ∗ ats c 0 0 ∗ ats c 2 0) ⊢ oth c fun j => iprop(preW (F := F) 0 c j ∗ preW 2 c j) := by
    unfold ats
    rw [← bigSep_sep', ← bigSep_sep', ← bigSep_sep']
    refine bigSep_mono fun j _ => (?_ : (iprop(postS 0 c j ∗ postS 2 c j ∗ atPos ER (dCell c 0 j) 0 ∅ 0 ∗ atPos ER (dCell c 2 j) 0 ∅ 0) : sProp 𝕄) ⊢ _)
    unfold postS preW
    iintro ⟨H1, H2, H3, H4⟩
    isplitl [H1 H3]
    · isplitl [H1] <;> iassumption
    isplitl [H2] <;> iassumption
  unfold stE stF
  iintro ⟨Hs, Hw, HX⟩
  ihave Hs := (st_end m K c (owedE c) (preW 3 c) (postW m 3 c)) $$ Hs
  icases Hs with ⟨Hc, Hp⟩
  ihave Hw := e2 $$ Hw
  isplitl [Hc Hw]
  · iapply (st_start m K c (owedE c) (fun j => iprop(preW 0 c j ∗ preW 2 c j)) (fun j => iprop(postW m 0 c j ∗ postW m 2 c j)))
    isplitl [Hc]; · iexact Hc
    iexact Hw
  isplitl [Hp] <;> iassumption

/-! ## The pieces that compute -/

/-- The second expert's product and the store of the contribution, followed by the rest. -/
theorem store_then (c : Dev nD) {v116 : FVec F S256x256 .f32} {v122 : FVec F S256x1 .f32} {h1 h2 h3 h4 h5}
    {β : Type} {k : Prog (TpuEff nD τ sig (Elt F) Λ₀ .tc) β} {X : sProp 𝕄} {Q : β → sProp 𝕄}
    (hk : iprop(outPts c (k0_pay4 v116 v122 (xAt m c) (w1At m c)) ∗ (inp m c ∗ X)) ⊢ WP c k Q) :
    iprop((∃ f, outPts c f) ∗ (inp m c ∗ X)) ⊢ WP c (do
        let v123 : Vec F S256x128 .f32 ← Prog.lift (.load xM (Rect.unit (s := S256x128) ![0, 0] S256x128.size inb_S256x128_S256x128_0_0).toLoadRect h1)
        let v127 : Vec F S1x128x256 .f32 ← Prog.lift (.load wM (Rect.unit (s := S2x128x256) ![1, 0, 0] S1x128x256.size inb_S2x128x256_S1x128x256_1_0_0).toLoadRect h2)
        let _ : Vec F S256x256 .f32 ← Prog.lift (.load oM (Rect.unit (s := S256x256) ![0, 0] S256x256.size inb_S256x256_S256x256_0_0).toLoadRect h3)
        Prog.lift (.store oM (Rect.unit (s := S256x256) ![0, 0] S256x256.size inb_S256x256_S256x256_0_0) (k0_pay4 v116 v122 v123 v127) Finset.univ h4 h5)
        k) Q := by
  simp only [Prog.lift, Prog.bind_op, Prog.bind_ret, Prog.pure_eq_ret]
  unfold inp outPts at *
  iintro ⟨⟨%f, Ho⟩, ⟨Hx, Hr, Hw⟩, HX⟩
  iapply (wp_load 𝒱₀ (c : Thread nD τ) none Set.univ (m := xM) (Finset.subset_univ _)) $$ Hx; iintro Hx
  rw [load_x]
  iapply (wp_load 𝒱₀ (c : Thread nD τ) none Set.univ (m := wM) (Finset.subset_univ _)) $$ Hw; iintro Hw
  iapply (wp_load 𝒱₀ (c : Thread nD τ) none Set.univ (m := oM) (Finset.subset_univ _)) $$ Ho; iintro Ho
  iapply (wp_store 𝒱₀ (c : Thread nD τ) none Set.univ (m := oM) (r := Rect.unit (s := S256x256) ![0, 0] S256x256.size inb_S256x256_S256x256_0_0) (Mk := Finset.univ) (Finset.subset_univ _)) $$ Ho; iintro Ho
  rw [store_out]
  iapply hk
  isplitl [Ho]; · iexact Ho
  isplitr [HX]
  · isplitl [Hx]; · iexact Hx
    isplitl [Hr] <;> iassumption
  iexact HX

/-- The store of the accumulator, followed by the rest. -/
theorem acc_then (c : Dev nD) {v421 : FVec F S8x256 .f32} {h1 h4 h5}
    {β : Type} {k : Prog (TpuEff nD τ sig (Elt F) Λ₀ .tc) β} {X : sProp 𝕄} {Q : β → sProp 𝕄}
    (hk : iprop(accPts c fullShare (k0_pay38 v421) ∗ X) ⊢ WP c k Q) :
    iprop((∃ f, accPts c fullShare f) ∗ X) ⊢ WP c (do
        let _ : Vec F S8x256 .f32 ← Prog.lift (.load aM (Rect.unit (s := S8x256) ![0, 0] S8x256.size inb_S8x256_S8x256_0_0).toLoadRect h1)
        Prog.lift (.store aM (Rect.unit (s := S8x256) ![0, 0] S8x256.size inb_S8x256_S8x256_0_0) (k0_pay38 v421) Finset.univ h4 h5)
        k) Q := by
  simp only [Prog.lift, Prog.bind_op, Prog.bind_ret, Prog.pure_eq_ret]
  unfold accPts at *
  iintro ⟨⟨%f, Ho⟩, HX⟩
  iapply (wp_load 𝒱₀ (c : Thread nD τ) none Set.univ (m := aM) (Finset.subset_univ _)) $$ Ho; iintro Ho
  iapply (wp_store 𝒱₀ (c : Thread nD τ) none Set.univ (m := aM) (r := Rect.unit (s := S8x256) ![0, 0] S8x256.size inb_S8x256_S8x256_0_0) (Mk := Finset.univ) (Finset.subset_univ _)) $$ Ho; iintro Ho
  rw [store_acc]
  iapply hk
  isplitl [Ho] <;> iassumption

end Cert.Moe

end
-- ==== Proof.PartsA.lean ====
/-
# The barrier, and the first expert's product
-/
module

public import proofs.«01_k».proof.Proof.Parts

@[expose] public section

set_option maxRecDepth 16384

noncomputable section

namespace Cert.Moe

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

variable (K : Dev nD × CK → ℕ) (c : Dev nD)

set_option maxHeartbeats 20000000

/-- Reading the device's number and signalling devices 0 to 7. -/
theorem part1 (X : sProp 𝕄) : iprop(stA m K c 0 ∗ X) ⊢ WP (F := F) c (onBufs (k0_part1 (F := F))) (rets ⟨c, devW c, barA⟩ iprop(stA m K c 8 ∗ X)) := by
  rw [k0_part1_eq_skeleton]
  unfold onBufs k0_part1_skel
  refine seq_rets (a := c) (S := iprop(stA m K c 0 ∗ X)) ?_ ?_
  · simp only [Prog.lift]
    unfold WP
    rw [wp_deviceId, wp_ret]
    iintro H
    imodintro
    isplitr; · ipureintro; rfl
    iexact H
  iterate 8 refine signal_block m K _ _ (by decide) (cond_ne _ _ (by decide)) (fun _ => rfl) ?_
  exact done_rets

/-- Signalling devices 8 to 17. -/
theorem part2 (X : sProp 𝕄) : iprop(stA m K c 8 ∗ X) ⊢ WP c (onBufs k0_part2 c (devW c) barA) fun _ => iprop(stA m K c 18 ∗ X) := by
  rw [k0_part2_eq_skeleton]
  unfold onBufs k0_part2_skel
  iterate 10 refine signal_block m K c _ (by decide) (cond_ne c _ (by decide)) (fun _ => rfl) ?_
  exact done (BI.Entails.refl _)

/-- Signalling devices 18 to 27. -/
theorem part3 (X : sProp 𝕄) : iprop(stA m K c 18 ∗ X) ⊢ WP c (onBufs k0_part3 c (devW c) barA) fun _ => iprop(stA m K c 28 ∗ X) := by
  rw [k0_part3_eq_skeleton]
  unfold onBufs k0_part3_skel
  iterate 10 refine signal_block m K c _ (by decide) (cond_ne c _ (by decide)) (fun _ => rfl) ?_
  exact done (BI.Entails.refl _)

/-- Signalling devices 28 to 31, the wait for every other device's signal, and the first expert's product. -/
theorem part4 (X : sProp 𝕄) : iprop(stA m K c 28 ∗ (barW c ∗ (inp m c ∗ X))) ⊢ WP c (onBufs k0_part4 c (devW c) barA)
    (rets ⟨k0_pay2 (devW c) (rAt m c) (xAt m c) (w0At m c), k0_pay3 (devW c) (rAt m c)⟩ iprop(pastBar m K c ∗ (inp m c ∗ X))) := by
  rw [k0_part4_eq_skeleton]
  unfold onBufs k0_part4_skel
  iterate 4 refine signal_block m K c _ (by decide) (cond_ne c _ (by decide)) (fun _ => rfl) ?_
  refine seq (barrier_then m K c _) fun _ => ?_
  simp only [Prog.lift, Prog.bind_op, Prog.bind_ret, Prog.pure_eq_ret]
  unfold inp
  iintro ⟨Hb, ⟨Hx, Hr, Hw⟩, HX⟩
  iapply (wp_load 𝒱₀ (c : Thread nD τ) none Set.univ (m := rM) (Finset.subset_univ _)) $$ Hr; iintro Hr
  rw [load_r]
  iapply (wp_load 𝒱₀ (c : Thread nD τ) none Set.univ (m := xM) (Finset.subset_univ _)) $$ Hx; iintro Hx
  rw [load_x]
  iapply (wp_load 𝒱₀ (c : Thread nD τ) none Set.univ (m := wM) (Finset.subset_univ _)) $$ Hw; iintro Hw
  rw [wp_ret]
  imodintro
  isplitr; · ipureintro; rfl
  isplitl [Hb]; · iexact Hb
  isplitr [HX]
  · isplitl [Hx]; · iexact Hx
    isplitl [Hr] <;> iassumption
  iexact HX

end Cert.Moe

end
-- ==== Proof.PartsB.lean ====
/-
# The first exchange's copies, to device 12
-/
module

public import proofs.«01_k».proof.Proof.Parts

@[expose] public section

set_option maxRecDepth 16384

noncomputable section

namespace Cert.Moe

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

variable (K : Dev nD × CK → ℕ) (c : Dev nD)

set_option maxHeartbeats 20000000

/-- The contribution, and its copies to devices 0 to 2. -/
theorem part5 (X : sProp 𝕄) : iprop(pastBar m K c ∗ ((∃ f, outPts (F := F) c f) ∗ (inp m c ∗ (tokB c ∗ (∃ f, slotPts (F := F) c c f) ∗ X))))
    ⊢ WP c (onBufs k0_part5 c (devW c) (k0_pay2 (devW c) (rAt m c) (xAt m c) (w0At m c)) (k0_pay3 (devW c) (rAt m c)))
      (rets (test c 3) iprop(stB m K c 4 3 ∗ (atPos ER (barCell c) 1 ∅ 0 ∗ (inp m c ∗ X)))) := by
  rw [k0_part5_eq_skeleton]
  unfold onBufs k0_part5_skel
  refine (?_ : _ ⊢ iprop((∃ f, outPts (F := F) c f) ∗ (inp m c ∗ (pastBar m K c ∗ tokB c ∗ (∃ f, slotPts (F := F) c c f) ∗ X)))).trans (store_then m c ?_)
  · iintro ⟨H1, H2, H3, H4⟩
    isplitl [H2]; · iexact H2
    isplitl [H3]; · iexact H3
    isplitl [H1] <;> iassumption
  refine (?_ : _ ⊢ iprop(pastBar m K c ∗ (outPts c (contrib m c) ∗ tokB c ∗ (∃ f, slotPts (F := F) c c f) ∗ (inp m c ∗ X)))).trans
    ((startB m K c (iprop(inp m c ∗ X))).trans ?_)
  · unfold contrib
    iintro ⟨H1, H2, H3, H4, H5, H6⟩
    isplitl [H3]; · iexact H3
    isplitl [H1]; · iexact H1
    isplitl [H4]; · iexact H4
    isplitl [H5]; · iexact H5
    isplitl [H2] <;> iassumption
  iterate 3
    refine localB_block m K c _ _ (by decide) (cond_eq c _ (by decide)) ?_
    refine sendB_block m K c _ _ (by decide) (cond_ne c _ (by decide)) (fun _ => rfl) (off_sem c) (off_slot c) ?_
  refine localB_block m K c _ _ (by decide) (cond_eq c _ (by decide)) ?_
  exact done_rets

/-- The contribution to devices 3 to 7, and the device's own block if it is one of 4 to 8. -/
theorem part6 (X : sProp 𝕄) : iprop(stB m K c 4 3 ∗ X) ⊢ WP c (onBufs k0_part6 c (devW c) (test c 3)) (rets (test c 8) iprop(stB m K c 9 8 ∗ X)) := by
  rw [k0_part6_eq_skeleton]
  unfold onBufs k0_part6_skel
  iterate 5
    refine sendB_block m K c _ _ (by decide) (cond_ne c _ (by decide)) (fun _ => rfl) (off_sem c) (off_slot c) ?_
    refine localB_block m K c _ _ (by decide) (cond_eq c _ (by decide)) ?_
  exact done_rets

/-- The contribution to devices 8 to 12, and the device's own block if it is one of 9 to 13. -/
theorem part7 (X : sProp 𝕄) : iprop(stB m K c 9 8 ∗ X) ⊢ WP c (onBufs k0_part7 c (devW c) (test c 8)) (rets (test c 13) iprop(stB m K c 14 13 ∗ X)) := by
  rw [k0_part7_eq_skeleton]
  unfold onBufs k0_part7_skel
  iterate 5
    refine sendB_block m K c _ _ (by decide) (cond_ne c _ (by decide)) (fun _ => rfl) (off_sem c) (off_slot c) ?_
    refine localB_block m K c _ _ (by decide) (cond_eq c _ (by decide)) ?_
  exact done_rets

end Cert.Moe

end
-- ==== Proof.PartsB2.lean ====
/-
# The first exchange's copies, from device 13
-/
module

public import proofs.«01_k».proof.Proof.Parts

@[expose] public section

set_option maxRecDepth 16384

noncomputable section

namespace Cert.Moe

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

variable (K : Dev nD × CK → ℕ) (c : Dev nD)

set_option maxHeartbeats 20000000

/-- The contribution to devices 13 to 17, and the device's own block if it is one of 14 to 18. -/
theorem part8 (X : sProp 𝕄) : iprop(stB m K c 14 13 ∗ X) ⊢ WP c (onBufs k0_part8 c (devW c) (test c 13)) (rets (test c 18) iprop(stB m K c 19 18 ∗ X)) := by
  rw [k0_part8_eq_skeleton]
  unfold onBufs k0_part8_skel
  iterate 5
    refine sendB_block m K c _ _ (by decide) (cond_ne c _ (by decide)) (fun _ => rfl) (off_sem c) (off_slot c) ?_
    refine localB_block m K c _ _ (by decide) (cond_eq c _ (by decide)) ?_
  exact done_rets

/-- The contribution to devices 18 to 22, and the device's own block if it is one of 19 to 23. -/
theorem part9 (X : sProp 𝕄) : iprop(stB m K c 19 18 ∗ X) ⊢ WP c (onBufs k0_part9 c (devW c) (test c 18)) (rets (test c 23) iprop(stB m K c 24 23 ∗ X)) := by
  rw [k0_part9_eq_skeleton]
  unfold onBufs k0_part9_skel
  iterate 5
    refine sendB_block m K c _ _ (by decide) (cond_ne c _ (by decide)) (fun _ => rfl) (off_sem c) (off_slot c) ?_
    refine localB_block m K c _ _ (by decide) (cond_eq c _ (by decide)) ?_
  exact done_rets

/-- The contribution to devices 23 to 27, and the device's own block if it is one of 24 to 28. -/
theorem part10 (X : sProp 𝕄) : iprop(stB m K c 24 23 ∗ X) ⊢ WP c (onBufs k0_part10 c (devW c) (test c 23)) (rets (test c 28) iprop(stB m K c 29 28 ∗ X)) := by
  rw [k0_part10_eq_skeleton]
  unfold onBufs k0_part10_skel
  iterate 5
    refine sendB_block m K c _ _ (by decide) (cond_ne c _ (by decide)) (fun _ => rfl) (off_sem c) (off_slot c) ?_
    refine localB_block m K c _ _ (by decide) (cond_eq c _ (by decide)) ?_
  exact done_rets

/-- The last copies of the contribution, and the waits for what devices 0 to 2 send. -/
theorem part11 (X : sProp 𝕄) : iprop(stB m K c 29 28 ∗ (oth c (preW 1 c) ∗ X)) ⊢ WP c (onBufs k0_part11 c (devW c) (test c 28))
    (rets (test c 3) iprop(stC m K c 3 ∗ (locB m c 32 ∗ oth c (postS 0 c) ∗ X))) := by
  rw [k0_part11_eq_skeleton]
  unfold onBufs k0_part11_skel
  iterate 3
    refine sendB_block m K c _ _ (by decide) (cond_ne c _ (by decide)) (fun _ => rfl) (off_sem c) (off_slot c) ?_
    refine localB_block m K c _ _ (by decide) (cond_eq c _ (by decide)) ?_
  refine sendB_block m K c _ _ (by decide) (cond_ne c _ (by decide)) (fun _ => rfl) (off_sem c) (off_slot c) ?_
  refine (startC m K c X).trans ?_
  iterate 3 refine waitC_block m K c _ (by decide) (cond_ne c _ (by decide)) ?_
  exact done_rets

end Cert.Moe

end
-- ==== Proof.PartsC.lean ====
/-
# The first exchange's waits
-/
module

public import proofs.«01_k».proof.Proof.Parts

@[expose] public section

set_option maxRecDepth 16384

noncomputable section

namespace Cert.Moe

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

variable (K : Dev nD × CK → ℕ) (c : Dev nD)

set_option maxHeartbeats 20000000

/-- The waits for what is sent by devices 3 to 12. -/
theorem part12 (X : sProp 𝕄) : iprop(stC m K c 3 ∗ X) ⊢ WP c (onBufs k0_part12 (devW c) (test c 3)) (rets (test c 13) iprop(stC m K c 13 ∗ X)) := by
  rw [k0_part12_eq_skeleton]
  unfold onBufs k0_part12_skel
  iterate 10 refine waitC_block m K c _ (by decide) (cond_ne c _ (by decide)) ?_
  exact done_rets

/-- The waits for what is sent by devices 13 to 22. -/
theorem part13 (X : sProp 𝕄) : iprop(stC m K c 13 ∗ X) ⊢ WP c (onBufs k0_part13 (devW c) (test c 13)) (rets (test c 23) iprop(stC m K c 23 ∗ X)) := by
  rw [k0_part13_eq_skeleton]
  unfold onBufs k0_part13_skel
  iterate 10 refine waitC_block m K c _ (by decide) (cond_ne c _ (by decide)) ?_
  exact done_rets

/-- The last waits of the first exchange, and the sum of what has come. -/
theorem part14 (X : sProp 𝕄) : iprop(stC m K c 23 ∗ (locB m c 32 ∗ X)) ⊢ WP c (onBufs k0_part14 (devW c) (test c 23))
    (rets (k0_pay37 (rbufAt m c)) iprop(bufPts c (rbufAt m c) ∗ (pastC m K c ∗ ats c 1 1 ∗ X))) := by
  rw [k0_part14_eq_skeleton]
  unfold onBufs k0_part14_skel
  iterate 9 refine waitC_block m K c _ (by decide) (cond_ne c _ (by decide)) ?_
  refine (endC m K c X).trans ?_
  simp only [Prog.lift, Prog.bind_op, Prog.bind_ret, Prog.pure_eq_ret]
  unfold bufPts
  iintro ⟨Hb, HX⟩
  iapply (wp_load 𝒱₀ (c : Thread nD τ) none Set.univ (m := bM) (Finset.subset_univ _)) $$ Hb; iintro Hb
  rw [load_buf]
  rw [wp_ret]
  imodintro
  isplitr; · ipureintro; rfl
  isplitl [Hb] <;> iassumption

end Cert.Moe

end
-- ==== Proof.PartsD.lean ====
/-
# The second exchange's copies, to device 13
-/
module

public import proofs.«01_k».proof.Proof.Parts

@[expose] public section

set_option maxRecDepth 16384

noncomputable section

namespace Cert.Moe

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

variable (K : Dev nD × CK → ℕ) (c : Dev nD)

set_option maxHeartbeats 20000000

/-- The sum's store, and its copies to devices 0 to 3. -/
theorem part15 (X : sProp 𝕄) : iprop((∃ f, accPts (F := F) c fullShare f) ∗ (pastC m K c ∗ tokD c ∗ X)) ⊢ WP c (onBufs k0_part15 c (devW c) (k0_pay37 (rbufAt m c)))
      (rets (test c 4) iprop(stD m K c 5 4 ∗ X)) := by
  rw [k0_part15_eq_skeleton]
  unfold onBufs k0_part15_skel
  refine acc_then c ?_
  refine (?_ : _ ⊢ iprop(pastC m K c ∗ (accPts c fullShare (accAt m c) ∗ tokD c ∗ X))).trans ((startD m K c X).trans ?_)
  · unfold accAt
    iintro ⟨H1, H2, H3⟩
    isplitl [H2]; · iexact H2
    isplitl [H1] <;> iassumption
  iterate 4
    refine localD_block m K c _ _ (by decide) (cond_eq c _ (by decide)) ?_
    refine sendD_block m K c _ _ (by decide) (cond_ne c _ (by decide)) (fun _ => rfl) (off_sem c) (off_rows c) ?_
  refine localD_block m K c _ _ (by decide) (cond_eq c _ (by decide)) ?_
  exact done_rets

/-- The sum to devices 4 to 8, and the device's own block if it is one of 5 to 9. -/
theorem part16 (X : sProp 𝕄) : iprop(stD m K c 5 4 ∗ X) ⊢ WP c (onBufs k0_part16 c (devW c) (test c 4)) (rets (test c 9) iprop(stD m K c 10 9 ∗ X)) := by
  rw [k0_part16_eq_skeleton]
  unfold onBufs k0_part16_skel
  iterate 5
    refine sendD_block m K c _ _ (by decide) (cond_ne c _ (by decide)) (fun _ => rfl) (off_sem c) (off_rows c) ?_
    refine localD_block m K c _ _ (by decide) (cond_eq c _ (by decide)) ?_
  exact done_rets

/-- The sum to devices 9 to 13, and the device's own block if it is one of 10 to 14. -/
theorem part17 (X : sProp 𝕄) : iprop(stD m K c 10 9 ∗ X) ⊢ WP c (onBufs k0_part17 c (devW c) (test c 9)) (rets (test c 14) iprop(stD m K c 15 14 ∗ X)) := by
  rw [k0_part17_eq_skeleton]
  unfold onBufs k0_part17_skel
  iterate 5
    refine sendD_block m K c _ _ (by decide) (cond_ne c _ (by decide)) (fun _ => rfl) (off_sem c) (off_rows c) ?_
    refine localD_block m K c _ _ (by decide) (cond_eq c _ (by decide)) ?_
  exact done_rets

end Cert.Moe

end
-- ==== Proof.PartsD2.lean ====
/-
# The second exchange's copies, from device 14
-/
module

public import proofs.«01_k».proof.Proof.Parts

@[expose] public section

set_option maxRecDepth 16384

noncomputable section

namespace Cert.Moe

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

variable (K : Dev nD × CK → ℕ) (c : Dev nD)

set_option maxHeartbeats 20000000

/-- The sum to devices 14 to 18, and the device's own block if it is one of 15 to 19. -/
theorem part18 (X : sProp 𝕄) : iprop(stD m K c 15 14 ∗ X) ⊢ WP c (onBufs k0_part18 c (devW c) (test c 14)) (rets (test c 19) iprop(stD m K c 20 19 ∗ X)) := by
  rw [k0_part18_eq_skeleton]
  unfold onBufs k0_part18_skel
  iterate 5
    refine sendD_block m K c _ _ (by decide) (cond_ne c _ (by decide)) (fun _ => rfl) (off_sem c) (off_rows c) ?_
    refine localD_block m K c _ _ (by decide) (cond_eq c _ (by decide)) ?_
  exact done_rets

/-- The sum to devices 19 to 23, and the device's own block if it is one of 20 to 24. -/
theorem part19 (X : sProp 𝕄) : iprop(stD m K c 20 19 ∗ X) ⊢ WP c (onBufs k0_part19 c (devW c) (test c 19)) (rets (test c 24) iprop(stD m K c 25 24 ∗ X)) := by
  rw [k0_part19_eq_skeleton]
  unfold onBufs k0_part19_skel
  iterate 5
    refine sendD_block m K c _ _ (by decide) (cond_ne c _ (by decide)) (fun _ => rfl) (off_sem c) (off_rows c) ?_
    refine localD_block m K c _ _ (by decide) (cond_eq c _ (by decide)) ?_
  exact done_rets

/-- The sum to devices 24 to 28, and the device's own block if it is one of 25 to 29. -/
theorem part20 (X : sProp 𝕄) : iprop(stD m K c 25 24 ∗ X) ⊢ WP c (onBufs k0_part20 c (devW c) (test c 24)) (rets (test c 29) iprop(stD m K c 30 29 ∗ X)) := by
  rw [k0_part20_eq_skeleton]
  unfold onBufs k0_part20_skel
  iterate 5
    refine sendD_block m K c _ _ (by decide) (cond_ne c _ (by decide)) (fun _ => rfl) (off_sem c) (off_rows c) ?_
    refine localD_block m K c _ _ (by decide) (cond_eq c _ (by decide)) ?_
  exact done_rets

/-- The last copies of the sum, and the waits for what devices 0 to 4 send. -/
theorem part21 (X : sProp 𝕄) : iprop(stD m K c 30 29 ∗ (oth c (preW 3 c) ∗ X)) ⊢ WP c (onBufs k0_part21 c (devW c) (test c 29))
    (rets (test c 5) iprop(stE m K c 5 ∗ (locD m c 32 ∗ oth c (postS 2 c) ∗ X))) := by
  rw [k0_part21_eq_skeleton]
  unfold onBufs k0_part21_skel
  iterate 2
    refine sendD_block m K c _ _ (by decide) (cond_ne c _ (by decide)) (fun _ => rfl) (off_sem c) (off_rows c) ?_
    refine localD_block m K c _ _ (by decide) (cond_eq c _ (by decide)) ?_
  refine sendD_block m K c _ _ (by decide) (cond_ne c _ (by decide)) (fun _ => rfl) (off_sem c) (off_rows c) ?_
  refine (startE m K c X).trans ?_
  iterate 5 refine waitE_block m K c _ (by decide) (cond_ne c _ (by decide)) ?_
  exact done_rets

end Cert.Moe

end
-- ==== Proof.PartsE.lean ====
/-
# The second exchange's waits
-/
module

public import proofs.«01_k».proof.Proof.Parts

@[expose] public section

set_option maxRecDepth 16384

noncomputable section

namespace Cert.Moe

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

variable (K : Dev nD × CK → ℕ) (c : Dev nD)

set_option maxHeartbeats 20000000

/-- The waits for the sums of devices 5 to 14. -/
theorem part22 (X : sProp 𝕄) : iprop(stE m K c 5 ∗ X) ⊢ WP c (onBufs k0_part22 (devW c) (test c 5)) (rets (test c 15) iprop(stE m K c 15 ∗ X)) := by
  rw [k0_part22_eq_skeleton]
  unfold onBufs k0_part22_skel
  iterate 10 refine waitE_block m K c _ (by decide) (cond_ne c _ (by decide)) ?_
  exact done_rets

/-- The waits for the sums of devices 15 to 24. -/
theorem part23 (X : sProp 𝕄) : iprop(stE m K c 15 ∗ X) ⊢ WP c (onBufs k0_part23 (devW c) (test c 15)) (rets (test c 25) iprop(stE m K c 25 ∗ X)) := by
  rw [k0_part23_eq_skeleton]
  unfold onBufs k0_part23_skel
  iterate 10 refine waitE_block m K c _ (by decide) (cond_ne c _ (by decide)) ?_
  exact done_rets

/-- The last waits of the second exchange, and the first for the device's own copies. -/
theorem part24 (X : sProp 𝕄) : iprop(stE m K c 25 ∗ ((oth c (postS 0 c) ∗ oth c (postS 2 c) ∗ ats c 0 0 ∗ ats c 2 0) ∗ X)) ⊢ WP c (onBufs k0_part24 (devW c) (test c 25))
    (rets (test c 3) iprop(stF m K c 3 ∗ (oth c (postW m 3 c) ∗ X))) := by
  rw [k0_part24_eq_skeleton]
  unfold onBufs k0_part24_skel
  iterate 7 refine waitE_block m K c _ (by decide) (cond_ne c _ (by decide)) ?_
  refine (startF m K c X).trans ?_
  iterate 3 refine waitF_block m K c _ (by decide) (cond_ne c _ (by decide)) ?_
  exact done_rets

/-- The waits for the device's own copies to devices 3 to 12. -/
theorem part25 (X : sProp 𝕄) : iprop(stF m K c 3 ∗ X) ⊢ WP c (onBufs k0_part25 (devW c) (test c 3)) (rets (test c 13) iprop(stF m K c 13 ∗ X)) := by
  rw [k0_part25_eq_skeleton]
  unfold onBufs k0_part25_skel
  iterate 10 refine waitF_block m K c _ (by decide) (cond_ne c _ (by decide)) ?_
  exact done_rets

/-- The waits for the device's own copies to devices 13 to 22. -/
theorem part26 (X : sProp 𝕄) : iprop(stF m K c 13 ∗ X) ⊢ WP c (onBufs k0_part26 (devW c) (test c 13)) (rets (test c 23) iprop(stF m K c 23 ∗ X)) := by
  rw [k0_part26_eq_skeleton]
  unfold onBufs k0_part26_skel
  iterate 10 refine waitF_block m K c _ (by decide) (cond_ne c _ (by decide)) ?_
  exact done_rets

end Cert.Moe

end
-- ==== Proof.Ends.lean ====
/-
# The body's start and end
-/
module

public import proofs.«01_k».proof.Proof.Parts
public import Idealize.ShloMosaic.Lib.Rounds.Family

@[expose] public section

set_option maxRecDepth 16384

noncomputable section

namespace Cert.Moe

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

variable (K : Dev nD × CK → ℕ)

/-! ## All of a device's cells -/

/-- One of something for every cell of a device: its barrier's, and for each family its own unused one and the others'. -/
theorem cells_split (c : Dev nD) (Φ : CK → sProp 𝕄) :
    bigSep Finset.univ Φ = iprop(Φ none ∗ (Φ (some (0, c)) ∗ oth c fun j => Φ (some (0, j))) ∗ (Φ (some (1, c)) ∗ oth c fun j => Φ (some (1, j)))
      ∗ (Φ (some (2, c)) ∗ oth c fun j => Φ (some (2, j))) ∗ (Φ (some (3, c)) ∗ oth c fun j => Φ (some (3, j)))) := by
  have e0 : bigSep Finset.univ Φ = iprop(Φ none ∗ bigSep Finset.univ fun aj : Fin 4 × Dev nD => Φ (some aj)) := by
    have e : (Finset.univ : Finset CK) = insert none (Finset.univ.map Function.Embedding.some) := by
      ext k; cases k <;> simp
    rw [e]
    refine (bigSep_insert (by simp)).trans ?_
    rw [bigSep_map]
    rfl
  have e1 : bigSep Finset.univ (fun aj : Fin 4 × Dev nD => Φ (some aj)) = bigSep Finset.univ fun a : Fin 4 => bigSep Finset.univ fun j => Φ (some (a, j)) :=
    bigSep_univ_prod _
  rw [e0, e1, bigSep_univ_eq_bigSepL [(0 : Fin 4), 1, 2, 3] (by decide) (by decide)]
  rw [← oth_own c fun j => Φ (some (0, j)), ← oth_own c fun j => Φ (some (1, j)), ← oth_own c fun j => Φ (some (2, j)), ← oth_own c fun j => Φ (some (3, j))]
  rfl

/-- The round each cell ends at: none of the unused cells' rounds has a duty, the others' only round 0. -/
def lastRound (c : Dev nD) : CK → ℕ
  | none => 1
  | some (_, j) => if j = c then 0 else 1

theorem duties_last (c : Dev nD) (k : CK) (r : ℕ) (hr : lastRound c k ≤ r) : (Rd (F := F) m).duties (kcell (c, k)) r = ∅ := by
  by_cases h : 1 ≤ r
  · exact duties_later m _ r h
  · have hr0 : r = 0 := by omega
    subst hr0
    rcases k with _ | ⟨a, j⟩
    · exact absurd (show (1 : ℕ) ≤ 0 from hr) (by decide)
    · unfold lastRound at hr
      dsimp only at hr
      by_cases e : j = c
      · rw [duties_eq]
        dsimp only [dut]
        rw [if_pos e]
      · rw [if_neg e] at hr; omega

/-- Every cell of a device closes, its counter at zero. -/
theorem close_all (c : Dev nD) :
    iprop(records m K ∗ bigSep Finset.univ fun k : CK => atPos ER (kcell (c, k)) (lastRound c k) ∅ 0)
      ⊢ (|={Set.univ}=> bigSep Finset.univ fun k : CK => semVal (kcell (c, k)) 0 : sProp 𝕄) := by
  have h : iprop(records m K ∗ bigSep Finset.univ fun k : CK => atPos ER (kcell (c, k)) (lastRound c k) ∅ 0)
      ⊢ (bigSep Finset.univ fun k : CK => iprop(cellInv ER (Rd m) (K (c, k)) (kcell (c, k)) ∗ atPos ER (kcell (c, k)) (lastRound c k) ∅ 0) : sProp 𝕄) := by
    have h1 : records m K ⊢ bigSep Finset.univ fun k : CK => (cellInv ER (Rd m) (K (c, k)) (kcell (c, k)) : sProp 𝕄) :=
      (BI.bigSep_of_persistent Finset.univ (records m K)).trans (bigSep_mono fun k _ => inv_at m K c k)
    rw [bigSep_sep']
    iintro ⟨H, Ha⟩
    isplitl [H]
    · iapply h1; iexact H
    iexact Ha
  exact h.trans (Rounds.cells_close ER (Rd m) Finset.univ (fun k => kcell (c, k)) (fun k => K (c, k)) (fun _ _ => Set.mem_univ _) (fun _ _ h => h)
    (lastRound c) fun k _ r hr => duties_last m c k r hr)

/-! ## The body's start and end -/

/-- The tokens of the duties a device discharges. -/
def payToks (c : Dev nD) : sProp 𝕄 :=
  bigSep Finset.univ fun j : Dev nD => iprop(dutyTok ER (barCell j) 0 c ∗ dutyTok ER (dCell j 1 c) 0 c ∗ dutyTok ER (dCell c 0 j) 0 j
    ∗ dutyTok ER (dCell j 3 c) 0 c ∗ dutyTok ER (dCell c 2 j) 0 j)
/-- The credit a device starts with: for its barrier and for what the others are to send it. -/
def creds (c : Dev nD) : sProp 𝕄 :=
  iprop(cred (tallyAt (barCell c) () 31) ∗ (oth c fun j => cred (tallyAt (dCell c 1 j) () N)) ∗ oth c fun j => cred (tallyAt (dCell c 3 j) () N))
/-- The positions of the unused cells. -/
def selfAts (c : Dev nD) : sProp 𝕄 :=
  iprop(atPos ER (dCell c 0 c) 0 ∅ 0 ∗ atPos ER (dCell c 1 c) 0 ∅ 0 ∗ atPos ER (dCell c 2 c) 0 ∅ 0 ∗ atPos ER (dCell c 3 c) 0 ∅ 0)

def bodyStart (c : Dev nD) : sProp 𝕄 :=
  iprop((ctx m K ∗ owesAny c (owedA c 0)) ∗ inp m c ∗ (∃ f, outPts (F := F) c f) ∗ (∃ f, bufPts (F := F) c f) ∗ (∃ f, accPts (F := F) c fullShare f)
    ∗ payToks c ∗ creds c ∗ bigSep Finset.univ fun k : CK => atPos ER (kcell (c, k)) 0 ∅ 0)
def bodyEnd (c : Dev nD) : sProp 𝕄 :=
  iprop(owesAny c 0 ∗ inp m c ∗ outPts c (outAt m) ∗ (∃ f, bufPts (F := F) c f) ∗ (∃ f, accPts (F := F) c fullShare f)
    ∗ bigSep Finset.univ fun k : CK => semVal (kcell (c, k)) 0)

/-- What is kept for the second exchange's waits and the last loop. -/
def keep2 (c : Dev nD) : sProp 𝕄 := iprop(oth c (preW (F := F) 3 c) ∗ ats c 0 0 ∗ ats c 2 0)
/-- What is kept from the first exchange's waits on. -/
def keep1 (c : Dev nD) : sProp 𝕄 := iprop((∃ f, accPts (F := F) c fullShare f) ∗ tokD c ∗ keep2 c ∗ selfAts c)

/-- The body's start, sorted by where each piece is used. -/
theorem start_sort (c : Dev nD) :
    bodyStart m K c ⊢ iprop(stA m K c 0 ∗ (barW c ∗ (inp m c ∗ ((∃ f, outPts (F := F) c f) ∗ tokB c ∗ (∃ f, slotPts (F := F) c c f)
      ∗ (oth c (preW 1 c) ∗ keep1 c))))) := by
  have ht : payToks c ⊢ (iprop((oth c fun j => dutyTok ER (barCell j) 0 c) ∗ tokB c ∗ tokD c) : sProp 𝕄) := by
    unfold payToks tokB tokD
    rw [oth_own c, ← bigSep_sep', ← bigSep_sep']
    have h : ∀ j : Dev nD, iprop(dutyTok ER (barCell j) 0 c ∗ dutyTok ER (dCell j 1 c) 0 c ∗ dutyTok ER (dCell c 0 j) 0 j
        ∗ dutyTok ER (dCell j 3 c) 0 c ∗ dutyTok ER (dCell c 2 j) 0 j)
        ⊢ (iprop(dutyTok ER (barCell j) 0 c ∗ (dutyTok ER (dCell j 1 c) 0 c ∗ dutyTok ER (dCell c 0 j) 0 j)
          ∗ (dutyTok ER (dCell j 3 c) 0 c ∗ dutyTok ER (dCell c 2 j) 0 j)) : sProp 𝕄) := fun j => by
      iintro ⟨H1, H2, H3, H4, H5⟩
      isplitl [H1]; · iexact H1
      isplitl [H2 H3]
      · isplitl [H2] <;> iassumption
      isplitl [H4] <;> iassumption
    have h' := bigSep_mono (s := Finset.univ.erase c) fun j _ => h j
    exact (Laws.sep_elim_right).trans h'
  have hs : iprop((oth c fun j => dutyTok ER (barCell j) 0 c) ∗ ∃ f, bufPts (F := F) c f) ⊢ (iprop(oth c (preA c) ∗ ∃ f, slotPts c c f) : sProp 𝕄) := by
    iintro ⟨Ht, ⟨%f, Hb⟩⟩
    have e1 : (bufPts c f : sProp 𝕄) = iprop(slotPts c c f ∗ oth c fun j => slotPts c j f) := (slots_split c _).trans (oth_own c _)
    ihave Hb := (Entails.of_eq e1) $$ Hb
    icases Hb with ⟨Hs, Hss⟩
    isplitr [Hs]
    · have e2 : iprop((oth c fun j => dutyTok ER (barCell j) 0 c) ∗ oth c fun j => slotPts c j f) ⊢ (oth c (preA c) : sProp 𝕄) := by
        rw [← bigSep_sep']
        refine bigSep_mono fun j _ => (?_ : (iprop(dutyTok ER (barCell j) 0 c ∗ slotPts c j f) : sProp 𝕄) ⊢ _)
        unfold preA
        iintro ⟨H1, H2⟩
        isplitl [H1]; · iexact H1
        iexists f; iexact H2
      iapply e2
      isplitl [Ht] <;> iassumption
    iexists f; iexact Hs
  have hw : ∀ a : Fin 4, iprop((oth c fun j => cred (tallyAt (dCell c a j) () N)) ∗ ats c a 0) ⊢ (oth c (preW a c) : sProp 𝕄) := fun a => by
    unfold ats
    rw [← bigSep_sep']
    exact bigSep_mono fun j _ => BI.Entails.refl _
  have hA : iprop((ctx m K ∗ owesAny c (owedA c 0)) ∗ oth c (preA c)) ⊢ stA m K c 0 := st_start m K c (owedA c) (preA c) (postA c)
  unfold bodyStart creds
  rw [cells_split c fun k => atPos ER (kcell (c, k)) 0 ∅ 0]
  iintro ⟨Hc, Hi, Ho, Hb, Ha, Ht, ⟨HcB, Hc1, Hc3⟩, HaB, ⟨Hs0, Ha0⟩, ⟨Hs1, Ha1⟩, ⟨Hs2, Ha2⟩, Hs3, Ha3⟩
  ihave Ht := ht $$ Ht
  icases Ht with ⟨HtA, HtB, HtD⟩
  ihave HA := hs $$ [HtA Hb]
  · isplitl [HtA] <;> iassumption
  icases HA with ⟨HA, Hsl⟩
  ihave H1 := (hw 1) $$ [Hc1 Ha1]
  · isplitl [Hc1]; · iexact Hc1
    unfold ats; iexact Ha1
  ihave H3 := (hw 3) $$ [Hc3 Ha3]
  · isplitl [Hc3]; · iexact Hc3
    unfold ats; iexact Ha3
  isplitl [Hc HA]
  · iapply hA
    isplitl [Hc] <;> iassumption
  isplitl [HcB HaB]
  · unfold barW
    isplitl [HcB] <;> iassumption
  isplitl [Hi]; · iexact Hi
  isplitl [Ho]; · iexact Ho
  isplitl [HtB]; · iexact HtB
  isplitl [Hsl]; · iexact Hsl
  isplitl [H1]; · iexact H1
  unfold keep1 keep2 selfAts ats
  isplitl [Ha]; · iexact Ha
  isplitl [HtD]; · iexact HtD
  isplitl [H3 Ha0 Ha2]
  · isplitl [H3]; · iexact H3
    isplitl [Ha0] <;> iassumption
  isplitl [Hs0]; · iexact Hs0
  isplitl [Hs1]; · iexact Hs1
  isplitl [Hs2] <;> iassumption

/-- What is kept to the end. -/
def keepZ (c : Dev nD) : sProp 𝕄 :=
  iprop(bufPts c (rbufAt m c) ∗ ats c 1 1 ∗ atPos ER (barCell c) 1 ∅ 0 ∗ inp m c ∗ selfAts c)

/-- The body's end: the result and the buffers put together, the cells closed. -/
theorem end_close (c : Dev nD) :
    iprop(stF m K c 32 ∗ (oth c (postW m 3 c) ∗ (locD m c 32 ∗ keepZ m c))) ⊢ |={Set.univ}=> bodyEnd m c := by
  have e0 : locD m c 32 = iprop(accPts c (accShare c) (accAt m c) ∗ rowsPts c c (outAt m)) := if_pos c.isLt
  have h3 : oth c (postW m 3 c) ⊢ iprop(ats c 3 1 ∗ oth c fun j => rowsPts c j (outAt m)) := by
    unfold ats
    rw [← bigSep_sep']
    exact bigSep_mono fun j _ => BI.Entails.refl _
  have h02 : (oth c fun j => iprop(postW m 0 c j ∗ postW m 2 c j)) ⊢ iprop(ats c 0 1 ∗ ats c 2 1 ∗ oth c fun j => accPts c (accShare j) (accAt m c)) := by
    unfold ats
    rw [← bigSep_sep', ← bigSep_sep']
    refine bigSep_mono fun j _ => (?_ : iprop((atPos ER (dCell c 0 j) 1 ∅ 0 ∗ emp) ∗ (atPos ER (dCell c 2 j) 1 ∅ 0 ∗ accPts c (accShare j) (accAt m c))) ⊢
      (iprop(atPos ER (dCell c 0 j) 1 ∅ 0 ∗ atPos ER (dCell c 2 j) 1 ∅ 0 ∗ accPts c (accShare j) (accAt m c)) : sProp 𝕄))
    iintro ⟨⟨H1, -⟩, H2, H3⟩
    isplitl [H1]; · iexact H1
    isplitl [H2] <;> iassumption
  have hats : ∀ a : Fin 4, (ats c a 1 : sProp 𝕄) = oth c fun j => atPos ER (kcell (c, some (a, j))) (lastRound c (some (a, j))) ∅ 0 := fun a =>
    bigSep_congr fun j hj => by
      have : lastRound c (some (a, j)) = 1 := if_neg (Finset.ne_of_mem_erase hj)
      rw [this]
  have hself : ∀ a : Fin 4, lastRound c (some (a, c)) = 0 := fun a => if_pos rfl
  have hall : iprop(atPos ER (barCell c) 1 ∅ 0 ∗ ats c 0 1 ∗ ats c 1 1 ∗ ats c 2 1 ∗ ats c 3 1 ∗ selfAts c)
      ⊢ (bigSep Finset.univ fun k : CK => atPos ER (kcell (c, k)) (lastRound c k) ∅ 0 : sProp 𝕄) := by
    rw [cells_split c, hats, hats, hats, hats, hself, hself, hself, hself]
    unfold selfAts
    iintro ⟨H, H0, H1, H2, H3, S0, S1, S2, S3⟩
    isplitl [H]; · iexact H
    isplitl [S0 H0]
    · isplitl [S0] <;> iassumption
    isplitl [S1 H1]
    · isplitl [S1] <;> iassumption
    isplitl [S2 H2]
    · isplitl [S2] <;> iassumption
    isplitl [S3] <;> iassumption
  have eo : iprop(rowsPts c c (outAt m) ∗ oth c fun j => rowsPts c j (outAt m)) = (outPts c (outAt m) : sProp 𝕄) :=
    ((rows_split c _).trans (oth_own c _)).symm
  have ea : iprop(accPts c (accShare c) (accAt m c) ∗ oth c fun j => accPts c (accShare j) (accAt m c)) = (accPts c fullShare (accAt m c) : sProp 𝕄) :=
    ((acc_split c _).trans (oth_own c _)).symm
  have hrec : ctx m K ⊢ records m K := by
    unfold ctx
    iintro ⟨H, -⟩
    iexact H
  rw [e0]
  unfold stF keepZ bodyEnd
  iintro ⟨Hs, Hp3, ⟨Hac, Hrc⟩, Hb, Ha1, HaB, Hi, Hse⟩
  ihave Hs := (st_end m K c (owedE c) (fun j => iprop(preW 0 c j ∗ preW 2 c j)) (fun j => iprop(postW m 0 c j ∗ postW m 2 c j))) $$ Hs
  icases Hs with ⟨⟨Hrec, HO⟩, Hp⟩
  ihave Hp := h02 $$ Hp
  icases Hp with ⟨Ha0, Ha2, Hacs⟩
  ihave Hp3 := h3 $$ Hp3
  icases Hp3 with ⟨Ha3, Hrs⟩
  ihave Hall := hall $$ [HaB Ha0 Ha1 Ha2 Ha3 Hse]
  · isplitl [HaB]; · iexact HaB
    isplitl [Ha0]; · iexact Ha0
    isplitl [Ha1]; · iexact Ha1
    isplitl [Ha2]; · iexact Ha2
    isplitl [Ha3] <;> iassumption
  imod (close_all m K c) $$ [Hrec Hall] with Hz
  · isplitl [Hrec]; · iapply hrec; iexact Hrec
    iexact Hall
  imodintro
  isplitl [HO]; · iexact HO
  isplitl [Hi]; · iexact Hi
  isplitl [Hrc Hrs]
  · rw [← eo]; isplitl [Hrc] <;> iassumption
  isplitl [Hb]; · iexists _; iexact Hb
  isplitl [Hac Hacs]
  · iexists (accAt m c); rw [← ea]; isplitl [Hac] <;> iassumption
  iexact Hz

end Cert.Moe

end
-- ==== Proof.Body.lean ====
/-
# The kernel's body
-/
module

public import proofs.«01_k».proof.Proof.PartsA
public import proofs.«01_k».proof.Proof.PartsB
public import proofs.«01_k».proof.Proof.PartsB2
public import proofs.«01_k».proof.Proof.PartsC
public import proofs.«01_k».proof.Proof.PartsD
public import proofs.«01_k».proof.Proof.PartsD2
public import proofs.«01_k».proof.Proof.PartsE
public import proofs.«01_k».proof.Proof.Ends

@[expose] public section

set_option maxRecDepth 16384

noncomputable section

namespace Cert.Moe

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

variable (K : Dev nD × CK → ℕ) (c : Dev nD)

set_option maxHeartbeats 20000000

/-! ## Handing on what is kept -/

theorem hand5 : iprop(pastBar m K c ∗ (inp m c ∗ ((∃ f, outPts (F := F) c f) ∗ tokB c ∗ (∃ f, slotPts (F := F) c c f) ∗ (oth c (preW 1 c) ∗ keep1 c))))
    ⊢ iprop(pastBar m K c ∗ ((∃ f, outPts (F := F) c f) ∗ (inp m c ∗ (tokB c ∗ (∃ f, slotPts (F := F) c c f) ∗ (oth c (preW 1 c) ∗ keep1 c))))) := by
  iintro ⟨H1, H2, H3, H4⟩
  isplitl [H1]; · iexact H1
  isplitl [H3]; · iexact H3
  isplitl [H2] <;> iassumption

theorem hand11 (S : sProp 𝕄) : iprop(S ∗ (atPos ER (barCell c) 1 ∅ 0 ∗ (inp m c ∗ (oth c (preW 1 c) ∗ keep1 c))))
    ⊢ iprop(S ∗ (oth c (preW 1 c) ∗ (keep1 c ∗ atPos ER (barCell c) 1 ∅ 0 ∗ inp m c))) := by
  iintro ⟨H1, H2, H3, H4, H5⟩
  isplitl [H1]; · iexact H1
  isplitl [H4]; · iexact H4
  isplitl [H5]; · iexact H5
  isplitl [H2] <;> iassumption

theorem hand15 : iprop(bufPts c (rbufAt m c) ∗ (pastC m K c ∗ ats c 1 1 ∗ (oth c (postS 0 c) ∗ (keep1 c ∗ atPos ER (barCell c) 1 ∅ 0 ∗ inp m c))))
    ⊢ iprop((∃ f, accPts (F := F) c fullShare f) ∗ (pastC m K c ∗ tokD c ∗ (oth c (preW 3 c) ∗ ((oth c (postS 0 c) ∗ ats c 0 0 ∗ ats c 2 0) ∗ keepZ m c)))) := by
  unfold keep1 keep2 keepZ
  iintro ⟨Hb, HC, Ha1, Hp, ⟨Hacc, HtD, ⟨H3, Ha0, Ha2⟩, Hse⟩, HaB, Hi⟩
  isplitl [Hacc]; · iexact Hacc
  isplitl [HC]; · iexact HC
  isplitl [HtD]; · iexact HtD
  isplitl [H3]; · iexact H3
  isplitl [Hp Ha0 Ha2]
  · isplitl [Hp]; · iexact Hp
    isplitl [Ha0] <;> iassumption
  isplitl [Hb]; · iexact Hb
  isplitl [Ha1]; · iexact Ha1
  isplitl [HaB]; · iexact HaB
  isplitl [Hi] <;> iassumption

theorem hand24 (S : sProp 𝕄) : iprop(S ∗ (locD m c 32 ∗ oth c (postS 2 c) ∗ ((oth c (postS 0 c) ∗ ats c 0 0 ∗ ats c 2 0) ∗ keepZ m c)))
    ⊢ iprop(S ∗ ((oth c (postS 0 c) ∗ oth c (postS 2 c) ∗ ats c 0 0 ∗ ats c 2 0) ∗ (locD m c 32 ∗ keepZ m c))) := by
  iintro ⟨HS, Hl, Hp2, ⟨Hp0, Ha0, Ha2⟩, HZ⟩
  isplitl [HS]; · iexact HS
  isplitl [Hp0 Hp2 Ha0 Ha2]
  · isplitl [Hp0]; · iexact Hp0
    isplitl [Hp2]; · iexact Hp2
    isplitl [Ha0] <;> iassumption
  isplitl [Hl] <;> iassumption

/-! ## The parts in sequence -/

/-- Everything but the last three waits. -/
theorem part27 : bodyStart m K c ⊢ WP c (onBufs (k0_part27 (F := F))) (rets (devW c)
    iprop(stF m K c 29 ∗ (oth c (postW m 3 c) ∗ (locD m c 32 ∗ keepZ m c)))) := by
  rw [k0_part27_eq_skeleton]
  unfold onBufs k0_part27_skel
  refine (start_sort m K c).trans ?_
  refine seq_rets (part1 m K c _) ?_
  refine seq (part2 m K c _) fun _ => ?_
  refine seq (part3 m K c _) fun _ => ?_
  refine seq_rets (part4 m K c _) ?_
  refine (hand5 m K c).trans ?_
  refine seq_rets (part5 m K c _) ?_
  refine seq_rets (part6 m K c _) ?_
  refine seq_rets (part7 m K c _) ?_
  refine seq_rets (part8 m K c _) ?_
  refine seq_rets (part9 m K c _) ?_
  refine seq_rets (part10 m K c _) ?_
  refine (hand11 m c _).trans ?_
  refine seq_rets (part11 m K c _) ?_
  refine seq_rets (part12 m K c _) ?_
  refine seq_rets (part13 m K c _) ?_
  refine seq_rets (part14 m K c _) ?_
  refine (hand15 m K c).trans ?_
  refine seq_rets (part15 m K c _) ?_
  refine seq_rets (part16 m K c _) ?_
  refine seq_rets (part17 m K c _) ?_
  refine seq_rets (part18 m K c _) ?_
  refine seq_rets (part19 m K c _) ?_
  refine seq_rets (part20 m K c _) ?_
  refine seq_rets (part21 m K c _) ?_
  refine seq_rets (part22 m K c _) ?_
  refine seq_rets (part23 m K c _) ?_
  refine (hand24 m c _).trans ?_
  refine seq_rets (part24 m K c _) ?_
  refine seq_rets (part25 m K c _) ?_
  refine seq_rets (part26 m K c _) ?_
  iterate 6 refine waitF_block m K c _ (by decide) (cond_ne c _ (by decide)) ?_
  exact done_rets

/-- The kernel's body: from the staged arguments, the tokens and the credit, to the result whole and every cell closed. -/
theorem body_run : bodyStart m K c ⊢ WP c (onBufs (cc0_body (F := F))) fun _ => bodyEnd m c := by
  rw [cc0_body_eq_skeleton]
  unfold onBufs cc0_body_skel
  refine seq_rets (part27 m K c) ?_
  iterate 3 refine waitF_block m K c _ (by decide) (cond_ne c _ (by decide)) ?_
  unfold WP
  rw [Prog.pure_eq_ret, wp_ret]
  exact end_close m K c

end Cert.Moe

end
-- ==== Proof.Tokens.lean ====
/-
# The protocol's ghost state at launch

The launch mints every cell's state, the position of its owner and its duty tokens, device by device; the cells'
invariants are then allocated from the semaphores' zero counters, and each token is dealt to the device that pays its
duty.
-/
module

public import proofs.«01_k».proof.Proof.Ends

@[expose] public section

set_option maxRecDepth 16384

noncomputable section

namespace Cert.Moe

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## What the launch mints -/

theorem kcell_injective : Function.Injective (kcell : Dev nD × CK → GSem nD τ sig) := by
  rintro ⟨c, k⟩ ⟨c', k'⟩ h
  have h1 : c = c' := congrArg (fun g : GSem nD τ sig => g.1.1) h
  have h2 : k = k' := csem_inj (congrArg Prod.snd h)
  rw [h1, h2]

/-- Every cell of every device. -/
def allCells : Finset (GSem nD τ sig) := Finset.univ.map ⟨kcell, kcell_injective⟩

/-- Which cell of its device a minted token is of: the barrier's, or the one of a family that peer `j` has. -/
def tokCell (k : Option (Fin 4)) (j : Dev nD) : CK := k.map fun a => (a, j)

/-- The tokens minted for device `c`'s own cells: device `j`'s duty on the barrier and on the four cells of peer `j`. -/
abbrev tokOf (x : Dev nD × Dev nD × Option (Fin 4)) : GSem nD τ sig × ℕ × Dev nD := (kcell (x.1, tokCell x.2.2 x.2.1), 0, x.2.1)

theorem tokOf_injective : Function.Injective tokOf := by
  rintro ⟨c, j, k⟩ ⟨c', j', k'⟩ h
  have hj : j = j' := congrArg (fun x : GSem nD τ sig × ℕ × Dev nD => x.2.2) h
  have hc := kcell_injective (congrArg (fun x : GSem nD τ sig × ℕ × Dev nD => x.1) h)
  have h1 : c = c' := congrArg Prod.fst hc
  have h2 : tokCell k j = tokCell k' j' := congrArg Prod.snd hc
  subst hj; subst h1
  have h3 : k = k' := Option.map_injective (fun a b hab => congrArg Prod.fst hab) h2
  rw [h3]

/-- Every token. -/
def allToks : Finset (GSem nD τ sig × ℕ × Dev nD) := Finset.univ.map ⟨tokOf, tokOf_injective⟩

/-- The ghost state the launch starts from: the staging's, and the protocol's. -/
def u₀ : UU :=
  (initOf (Pipeline.cells cfgs cellOf_inj) (Pipeline.launchToks cfgs cellOf_inj), initOf allCells allToks)

/-- The tokens of device `c`'s own cells. -/
def toks (c : Dev nD) : sProp 𝕄 :=
  bigSep Finset.univ fun j : Dev nD => iprop(dutyTok ER (barCell c) 0 j ∗ dutyTok ER (dCell c 0 j) 0 j ∗ dutyTok ER (dCell c 1 j) 0 j
    ∗ dutyTok ER (dCell c 2 j) 0 j ∗ dutyTok ER (dCell c 3 j) 0 j)

/-- What each device is dealt: its own cells' states, positions and records, and their tokens. -/
def G (c : Dev nD) : sProp 𝕄 :=
  iprop((bigSep Finset.univ fun k : CK => roundState ER (Rd m) (kcell (c, k)) 0)
    ∗ (bigSep Finset.univ fun k : CK => iprop(atPos ER (kcell (c, k)) 0 ∅ 0 ∗ reached ER (kcell (c, k)) 0)) ∗ toks c)

/-- What each device holds once the cells are set up and the tokens have gone to the devices that pay with them. -/
def G' (c : Dev nD) : sProp 𝕄 :=
  iprop(∃ K, records m K ∗ payToks c ∗ bigSep Finset.univ fun k : CK => atPos ER (kcell (c, k)) 0 ∅ 0)

theorem toks_eq : bigSep allToks (fun x => (dutyTok ER x.1 x.2.1 x.2.2 : sProp 𝕄)) = bigSep Finset.univ fun c : Dev nD => toks c := by
  unfold allToks
  rw [bigSep_map, bigSep_univ_prod]
  refine bigSep_congr fun c _ => ?_
  unfold toks
  rw [bigSep_univ_prod]
  refine bigSep_congr fun j _ => ?_
  rw [bigSep_univ_eq_bigSepL [(none : Option (Fin 4)), some 0, some 1, some 2, some 3] (by decide) (by decide)]
  rfl

theorem fund_all : BI.own (ER (initOf allCells allToks)) ⊢ (|==> bigSep Finset.univ (G m) : sProp 𝕄) := by
  have hX (Φ : GSem nD τ sig → sProp 𝕄) : bigSep allCells Φ = bigSep Finset.univ fun c : Dev nD => bigSep Finset.univ fun k : CK => Φ (kcell (c, k)) := by
    unfold allCells; rw [bigSep_map, bigSep_univ_prod]; rfl
  iintro HX
  imod (Rounds.fund ER (Rd m) allCells allToks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq toks_eq) $$ Htok
  unfold G; simp only [bigSep_sep']
  isplitl [Hst']; · iexact Hst'
  isplitl [Hat' Hr']
  · isplitl [Hat'] <;> iassumption
  iexact Htok'

/-! ## The semaphores -/

/-- The kernel's own semaphores: the four families of 32. -/
abbrev osem (aj : Fin 4 × Dev nD) : SemLoc sig := csem (some aj)

theorem osem_dma (a : Fin 4) (j : Dev nD) : osem (a, j) = .dma (dsem a j) := rfl

theorem own_split (Φ : CK → sProp 𝕄) : bigSep Finset.univ Φ = iprop(Φ none ∗ bigSep Finset.univ fun aj : Fin 4 × Dev nD => Φ (some aj)) := by
  have e : (Finset.univ : Finset CK) = insert none (Finset.univ.map Function.Embedding.some) := by
    ext k; cases k <;> simp
  rw [e]
  refine (bigSep_insert (by simp)).trans ?_
  rw [bigSep_map]
  rfl

/-- The barrier semaphore is the one semaphore outside the kernel's scope. -/
theorem unscopedSems0_bar (c : Dev nD) : (unscopedSems0 c : sProp 𝕄) = semVal (barCell c) 0 := by
  unfold unscopedSems0; rw [bigSep_eq_bigSepL_of_eq [SemLoc.reg barS] (by decide) (by decide)]; rfl

/-- A device's own semaphores and its barrier semaphore, all at zero, are its cells at zero. -/
theorem sems0_eq (c : Dev nD) :
    (bigSep Finset.univ fun k : CK => semVal (kcell (c, k)) 0 : sProp 𝕄)
      = iprop(unscopedSems0 c ∗ Pipeline.ownSems0 (Ix := Unit) (Name := ℕ) (U := UU) (Lvl := ℕ) (Val := Elt F) (τ := τ) osem c) := by
  rw [own_split, unscopedSems0_bar]
  rfl

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (Rd m) κ (kcell (c, k))))
          ∗ (bigSep Finset.univ fun k => iprop(atPos ER (kcell (c, k)) 0 ∅ 0 ∗ reached ER (kcell (c, k)) 0)) ∗ toks c) := by
  have ha : iprop((bigSep Finset.univ fun k : CK => semVal (kcell (c, k)) 0) ∗ bigSep Finset.univ fun k : CK => roundState ER (Rd m) (kcell (c, k)) 0)
      ⊢ (|={Set.univ}=> bigSep Finset.univ fun k => iprop(∃ κ : ℕ, cellInv ER (Rd m) κ (kcell (c, k))) : sProp 𝕄) := by
    rw [← bigSep_sep']
    exact (bigSep_mono fun k _ => (Rounds.body_intro ER (Rd m) (kcell (c, k))).trans inv_alloc).trans (bigSep_fupd _ _)
  unfold G
  iintro ⟨Hos, Hus, Hst, Hat, Htok⟩
  ihave Hv := (Entails.of_eq (sems0_eq (F := F) c).symm) $$ [Hos Hus]
  · isplitl [Hus] <;> iassumption
  imod ha $$ [Hv Hst] with Hinv
  · isplitl [Hv] <;> iassumption
  imodintro
  isplitl [Hinv]; · iexact Hinv
  isplitl [Hat]; · iexact Hat
  iexact Htok

/-! ## The tokens go to the devices that pay with them -/

theorem toks_dealt : (bigSep Finset.univ fun c : Dev nD => (toks c : sProp 𝕄)) ⊢ bigSep Finset.univ fun c : Dev nD => payToks c := by
  unfold toks payToks
  simp only [bigSep_sep']
  rw [bigSep_univ_comm (fun c j : Dev nD => (dutyTok ER (barCell c) 0 j : sProp 𝕄)),
    bigSep_univ_comm (fun c j : Dev nD => (dutyTok ER (dCell c 1 j) 0 j : sProp 𝕄)),
    bigSep_univ_comm (fun c j : Dev nD => (dutyTok ER (dCell c 3 j) 0 j : sProp 𝕄))]
  iintro ⟨HB, H0, H1, H2, H3⟩
  isplitl [HB]; · iexact HB
  isplitl [H1]; · iexact H1
  isplitl [H0]; · iexact H0
  isplitl [H3]; · iexact H3
  iexact H2

end Cert.Moe

end
-- ==== Proof.Deal.lean ====
/-
# Every device's start

The cells' invariants are allocated for all the devices at once. What the launch credits a device with is what the
other devices owe it: 31 units at its barrier cell, one block at each of its landing cells.
-/
module

public import proofs.«01_k».proof.Proof.Tokens

@[expose] public section

set_option maxRecDepth 16384

noncomputable section

namespace Cert.Moe

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## Every device's cells at once -/

theorem with_records {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- The invariants' names are chosen once for all devices; the records are every device's. -/
theorem regroup :
    (bigSep Finset.univ fun c : Dev nD => iprop((bigSep Finset.univ fun k => iprop(∃ κ : ℕ, cellInv ER (Rd m) κ (kcell (c, k))))
          ∗ (bigSep Finset.univ fun k => iprop(atPos ER (kcell (c, k)) 0 ∅ 0 ∗ reached ER (kcell (c, k)) 0)) ∗ toks c) : sProp 𝕄)
      ⊢ bigSep Finset.univ (G' m) := by
  have hg : ∀ (K : Dev nD × CK → ℕ) (c : Dev nD), iprop(records m K ∗ ((bigSep Finset.univ fun k : CK => atPos ER (kcell (c, k)) 0 ∅ 0) ∗ payToks c)) ⊢ G' m c := fun K c => by
    unfold G'
    iintro ⟨HR, Ha, Ht⟩
    iexists K
    isplitl [HR]; · iexact HR
    isplitl [Ht] <;> iassumption
  rw [bigSep_sep', bigSep_sep', ← bigSep_univ_prod (fun ck : Dev nD × CK => iprop(∃ κ : ℕ, cellInv ER (Rd m) κ (kcell ck))),
    bigSep_congr (s := Finset.univ) (fun (c : Dev nD) _ => bigSep_sep' Finset.univ (fun k : CK => (atPos ER (kcell (c, k)) 0 ∅ 0 : sProp 𝕄)) (fun k => reached ER (kcell (c, k)) 0)),
    bigSep_sep', ← bigSep_univ_prod (fun ck : Dev nD × CK => (reached ER (kcell ck) 0 : sProp 𝕄))]
  iintro ⟨HI, ⟨Hat, #HR⟩, Htok⟩
  ihave HK := (BI.bigSep_exists_pi Finset.univ (fun (ck : Dev nD × CK) (κ : ℕ) => (cellInv ER (Rd m) κ (kcell ck) : sProp 𝕄))) $$ HI
  icases HK with ⟨%K, #HI⟩
  ihave Htk := (toks_dealt (F := F)) $$ Htok
  iapply (with_records (R := records m K) fun c _ => hg K c)
  isplitr
  · unfold records; isplitl; · iexact HI
    iexact HR
  · iapply (Entails.of_eq (bigSep_sep' Finset.univ (fun c : Dev nD => bigSep Finset.univ fun k : CK => (atPos ER (kcell (c, k)) 0 ∅ 0 : sProp 𝕄)) payToks).symm)
    isplitl [Hat]; · iexact Hat
    iexact Htk

/-- From every device's semaphores and what it was dealt, every device's start. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## What the launch credits each device with -/

/-- What device `c` owes at launch: a barrier unit, a block of the first exchange and one of the second to each other device. -/
abbrev O₀ (c : Dev nD) : CellTallies nD τ sig Unit := owedA c 0

theorem O₀_eq (c : Dev nD) : O₀ c = owed c (Finset.univ.erase c) (Finset.univ.erase c) (Finset.univ.erase c) := by
  unfold O₀ owedA
  rw [rem_zero]

/-- The credit at one cell of a sum of credits at the cells `f j` is the one of the `j` whose cell it is. -/
theorem sum_at {S : Finset (Dev nD)} {f : Dev nD → GSem nD τ sig} {n : ℕ} (g : GSem nD τ sig) (j₀ : Dev nD)
    (hf : ∀ j, f j = g → j = j₀) (hg : f j₀ = g) :
    (∑ j ∈ S, (tallyAt (f j) () n : CellTallies nD τ sig Unit)) g () = if j₀ ∈ S then n else 0 := by
  rw [Finset.sum_apply, Finsupp.finset_sum_apply, ← Finset.sum_ite_eq S j₀ fun _ => n]
  refine Finset.sum_congr rfl fun j _ => ?_
  rw [tallyAt_apply]
  refine if_congr ⟨fun h => (hf j h.1.symm).symm, fun h => ⟨?_, rfl⟩⟩ rfl rfl
  rw [← h]; exact hg.symm

/-- No credit there where the cell is none of the `f j`. -/
theorem sum_off {S : Finset (Dev nD)} {f : Dev nD → GSem nD τ sig} {n : ℕ} (g : GSem nD τ sig) (hf : ∀ j, f j ≠ g) :
    (∑ j ∈ S, (tallyAt (f j) () n : CellTallies nD τ sig Unit)) g () = 0 := by
  rw [Finset.sum_apply, Finsupp.finset_sum_apply]
  refine Finset.sum_eq_zero fun j _ => ?_
  rw [tallyAt_apply]
  exact if_neg fun h => hf j h.1.symm

theorem cell_inj {c c' : Dev nD} {k k' : CK} (h : kcell (c, k) = kcell (c', k')) : c = c' ∧ k = k' :=
  ⟨congrArg Prod.fst (kcell_injective h), congrArg Prod.snd (kcell_injective h)⟩

/-- A barrier cell is no transfer cell, and a transfer cell of one family is none of another. -/
theorem bar_ne (c d : Dev nD) (a : Fin 4) (j : Dev nD) : dCell c a j ≠ barCell d := fun h => Option.some_ne_none _ (cell_inj h).2
theorem fam_ne (c d : Dev nD) (a b : Fin 4) (i j : Dev nD) (h : a ≠ b) : dCell c a i ≠ dCell d b j :=
  fun e => h (congrArg Prod.fst (Option.some.inj (cell_inj e).2))
theorem peer_eq {c d : Dev nD} {a : Fin 4} {i j : Dev nD} (e : dCell c a i = dCell d a j) : i = j :=
  congrArg Prod.snd (Option.some.inj (cell_inj e).2)

theorem O₀_at (d : Dev nD) (g : GSem nD τ sig) : O₀ d g () =
    (∑ j ∈ Finset.univ.erase d, (tallyAt (dCell j 3 d) () N : CellTallies nD τ sig Unit)) g ()
      + (∑ j ∈ Finset.univ.erase d, (tallyAt (dCell j 1 d) () N : CellTallies nD τ sig Unit)) g ()
      + (∑ j ∈ Finset.univ.erase d, (tallyAt (barCell j) () 1 : CellTallies nD τ sig Unit)) g () := by
  rw [O₀_eq]
  unfold owed
  rw [Pi.add_apply, Finsupp.add_apply, Pi.add_apply, Finsupp.add_apply]

theorem owed_bar (d c : Dev nD) : O₀ d (barCell c) () = if d = c then 0 else 1 := by
  rw [O₀_at, sum_off (f := fun j => dCell j 3 d) _ fun j => bar_ne j c 3 d, sum_off (f := fun j => dCell j 1 d) _ fun j => bar_ne j c 1 d,
    sum_at (f := fun j => barCell j) (barCell c) c (fun j h => (cell_inj h).1) rfl, Nat.zero_add]
  by_cases h : d = c
  · rw [if_pos h, if_neg (by rw [h]; exact Finset.notMem_erase _ _)]
  · rw [if_neg h, if_pos (Finset.mem_erase.mpr ⟨fun e => h e.symm, Finset.mem_univ _⟩)]

/-- Device `d` owes a landing cell a block where it is the cell's peer. -/
theorem owed_landing (d c j : Dev nD) (a : Fin 4) (hj : j ≠ c) :
    (∑ i ∈ Finset.univ.erase d, (tallyAt (dCell i a d) () N : CellTallies nD τ sig Unit)) (dCell c a j) () = if d = j then N else 0 := by
  by_cases h : d = j
  · subst h
    rw [if_pos rfl, sum_at (f := fun i => dCell i a d) (dCell c a d) c (fun i e => (cell_inj e).1) rfl,
      if_pos (Finset.mem_erase.mpr ⟨fun e => hj e.symm, Finset.mem_univ _⟩)]
  · rw [if_neg h]
    exact sum_off _ fun i e => h (peer_eq e)

theorem owed_first (d c j : Dev nD) (hj : j ≠ c) : O₀ d (dCell c 1 j) () = if d = j then N else 0 := by
  rw [O₀_at, owed_landing d c j 1 hj, sum_off (f := fun i => dCell i 3 d) _ fun i => fam_ne i c 3 1 d j (by decide),
    sum_off (f := fun i => barCell i) _ fun i h => bar_ne c i 1 j h.symm, Nat.zero_add, Nat.add_zero]

theorem owed_second (d c j : Dev nD) (hj : j ≠ c) : O₀ d (dCell c 3 j) () = if d = j then N else 0 := by
  rw [O₀_at, owed_landing d c j 3 hj, sum_off (f := fun i => dCell i 1 d) _ fun i => fam_ne i c 1 3 d j (by decide),
    sum_off (f := fun i => barCell i) _ fun i h => bar_ne c i 3 j h.symm, Nat.add_zero]

theorem launch_at (g : GSem nD τ sig) (n : ℕ) (h : ∑ d : Dev nD, O₀ d g () = n) :
    tallyOn g (launchCredit (Pipeline.owing O₀) 0 g) = (tallyAt g () n : CellTallies nD τ sig Unit) := by
  unfold tallyAt; refine congrArg _ (Finsupp.ext fun u => ?_); cases u
  rw [Pipeline.launchCredit_owing, Finsupp.single_eq_same, h]

theorem launch_bar (c : Dev nD) :
    tallyOn (barCell c) (launchCredit (Pipeline.owing O₀) 0 (barCell c)) = (tallyAt (barCell c) () 31 : CellTallies nD τ sig Unit) := by
  refine launch_at _ _ ?_
  have e : ∀ d : Dev nD, (if d = c then 0 else 1) = if d ∈ Finset.univ.erase c then 1 else 0 := fun d => by
    by_cases h : d = c <;> simp [h]
  rw [Finset.sum_congr rfl fun d _ => (owed_bar d c).trans (e d), ← Finset.sum_filter, Finset.sum_const, smul_eq_mul, mul_one,
    Finset.filter_mem_eq_inter, Finset.univ_inter, Finset.card_erase_of_mem (Finset.mem_univ c)]
  decide

theorem launch_first (c j : Dev nD) (hj : j ≠ c) :
    tallyOn (dCell c 1 j) (launchCredit (Pipeline.owing O₀) 0 (dCell c 1 j)) = (tallyAt (dCell c 1 j) () N : CellTallies nD τ sig Unit) := by
  refine launch_at _ _ ?_
  rw [Finset.sum_congr rfl fun d _ => owed_first d c j hj, Finset.sum_ite_eq' Finset.univ j fun _ => N, if_pos (Finset.mem_univ _)]

theorem launch_second (c j : Dev nD) (hj : j ≠ c) :
    tallyOn (dCell c 3 j) (launchCredit (Pipeline.owing O₀) 0 (dCell c 3 j)) = (tallyAt (dCell c 3 j) () N : CellTallies nD τ sig Unit) := by
  refine launch_at _ _ ?_
  rw [Finset.sum_congr rfl fun d _ => owed_second d c j hj, Finset.sum_ite_eq' Finset.univ j fun _ => N, if_pos (Finset.mem_univ _)]

/-- The credits a device waits with: 31 units at its barrier, one block at each landing cell. -/
theorem launch_creds (c : Dev nD) : (Pipeline.launchCred O₀ c : sProp 𝕄) ⊢ creds c := by
  have hsub : (Finset.univ.map ⟨csem, csem_inj⟩ : Finset (SemLoc sig)) ⊆ Finset.univ := Finset.subset_univ _
  unfold Pipeline.launchCred
  refine (bigSep_subset hsub).trans ?_
  rw [bigSep_map]
  show (bigSep Finset.univ fun k : CK => cred (tallyOn ((c : Thread nD τ), csem k) (launchCredit (Pipeline.owing O₀) 0 ((c : Thread nD τ), csem k))) : sProp 𝕄) ⊢ _
  rw [cells_split c fun k => cred (tallyOn ((c : Thread nD τ), csem k) (launchCredit (Pipeline.owing O₀) 0 ((c : Thread nD τ), csem k)))]
  have h1 : (oth c fun j => cred (tallyOn (dCell c 1 j) (launchCredit (Pipeline.owing O₀) 0 (dCell c 1 j)))) = (oth c fun j => cred (tallyAt (dCell c 1 j) () N) : sProp 𝕄) :=
    bigSep_congr fun j hj => by rw [launch_first c j (Finset.ne_of_mem_erase hj)]
  have h3 : (oth c fun j => cred (tallyOn (dCell c 3 j) (launchCredit (Pipeline.owing O₀) 0 (dCell c 3 j)))) = (oth c fun j => cred (tallyAt (dCell c 3 j) () N) : sProp 𝕄) :=
    bigSep_congr fun j hj => by rw [launch_second c j (Finset.ne_of_mem_erase hj)]
  rw [launch_bar, h1, h3]
  unfold creds
  iintro ⟨HB, -, ⟨-, H1⟩, -, -, H3⟩
  isplitl [HB]; · iexact HB
  isplitl [H1] <;> iassumption

end Cert.Moe

end
-- ==== Proof.Region.lean ====
/-
# The kernel's region

What the region hands the kernel on each device, what the kernel gives back, and that its run takes the one to the
other.
-/
module

public import proofs.«01_k».proof.Proof.Body
public import proofs.«01_k».proof.Proof.Deal

@[expose] public section

set_option maxRecDepth 16384

noncomputable section

namespace Cert.Moe

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

open Idealize.ShloMosaic.Pipeline (Dat Cfg Window BodyObligation cellOf)

variable (ρ : Dev nD → PrngReg)

/-! ## The region's data -/

/-- What device `c` starts with besides its buffers. -/
def start (c : Dev nD) : sProp 𝕄 := iprop(G' m c ∗ creds c ∗ levAts L lv)

/-- Before the kernel runs: the start, and the two scratch buffers at some contents. -/
def Φ₀ (c : Dev nD) : sProp 𝕄 := iprop(start m c ∗ (∃ f, bufPts (F := F) c f) ∗ ∃ f, accPts (F := F) c fullShare f)
/-- After it: the scratch buffers, and every semaphore at zero. -/
def Φ₁ (c : Dev nD) : sProp 𝕄 :=
  iprop((∃ f, bufPts (F := F) c f) ∗ (∃ f, accPts (F := F) c fullShare f) ∗ bigSep Finset.univ fun k : CK => semVal (kcell (c, k)) 0)

/-- The region's data: the kernel leaves its operands as they are and the result at the gathered blocks. -/
def dats (_ : Fin 1) (c : Dev nD) : Dat τ (Elt F) Unit ℕ UU ℕ cfg0 c where
  A w := m ((cfg0.win w).arr.view.loc (c : Thread nD τ))
  after w _ := match w with
    | ⟨0, _⟩ => xAt m c
    | ⟨1, _⟩ => rAt m c
    | ⟨2, _⟩ => wAt m c
    | ⟨3, _⟩ => outAt m
  Φ t := match t with
    | ⟨0, _⟩ => Φ₀ m c
    | ⟨_ + 1, _⟩ => Φ₁ c
  q _ := fullShare
  owed t := match t with
    | ⟨0, _⟩ => O₀ c
    | ⟨_ + 1, _⟩ => 0

theorem share_eq (c : Dev nD) (w : Fin cfg0.W) : (dats m 0 c).share w = fullShare := by unfold Dat.share; split <;> rfl

theorem owns_stage (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A whole staging buffer at the contents `X`. -/
abbrev stg (c : Dev nD) (b : Ref sig .tc) (X : Buf (Elt F) (((c : Dev nD) : Thread nD τ).loc b)) : sProp 𝕄 :=
  iprop(∃ f : Buf (Elt F) (((c : Dev nD) : Thread nD τ).loc b), ⌜f = X⌝ ∗ (((c : Thread nD τ).loc b) ↦{fullShare} f))

/-! ## The kernel's obligation -/

def bodyPre (c : Dev nD) : sProp 𝕄 :=
  iprop(Φ₀ m c ∗ (dats m 0 c).owesAt () t0_0.castSucc
    ∗ (∃ d, stg c cc0_stg0_0 ((dats m 0 c).before (0 : Fin 4) t0_0 d))
    ∗ (∃ d, stg c cc0_stg1_0 ((dats m 0 c).before (1 : Fin 4) t0_0 d))
    ∗ (∃ d, stg c cc0_stg2_0 ((dats m 0 c).before (2 : Fin 4) t0_0 d))
    ∗ (∃ d, stg c cc0_stg3_0 ((dats m 0 c).before (3 : Fin 4) t0_0 d)))

def bodyPost (c : Dev nD) : sProp 𝕄 :=
  iprop(Φ₁ c ∗ (dats m 0 c).owesAt () t0_0.succ ∗ stg c cc0_stg0_0 (xAt m c) ∗ stg c cc0_stg1_0 (rAt m c) ∗ stg c cc0_stg2_0 (wAt m c)
    ∗ stg c cc0_stg3_0 (outAt m))

theorem before_x (c : Dev nD) (d) : (dats m 0 c).before (0 : Fin 4) t0_0 d = xAt m c := by
  unfold Dat.before; rw [if_pos (fetch0_0 t0_0)]; rfl
theorem before_r (c : Dev nD) (d) : (dats m 0 c).before (1 : Fin 4) t0_0 d = rAt m c := by
  unfold Dat.before; rw [if_pos (fetch0_1 t0_0)]; rfl
theorem before_w (c : Dev nD) (d) : (dats m 0 c).before (2 : Fin 4) t0_0 d = wAt m c := by
  unfold Dat.before; rw [if_pos (fetch0_2 t0_0)]; rfl

/-- What the region hands the kernel is what its run starts from. -/
theorem body_enter (c : Dev nD) : bodyPre m c ⊢ iprop(∃ K, bodyStart m K c) := by
  have ho : (dats m 0 c).owesAt () t0_0.castSucc ⊢ (owesAny c (owedA c 0) : sProp 𝕄) := by
    unfold Dat.owesAt Pipeline.owesWithin owesAny
    iintro ⟨%W, %hW, HO⟩
    iexists W
    iexact HO
  unfold bodyPre Φ₀ start G'
  iintro ⟨⟨⟨⟨%K, HR, Ht, Ha⟩, Hc, Hl⟩, Hb, Hac⟩, Ho, ⟨%d0, %g0, %h0, Hx⟩, ⟨%d1, %g1, %h1, Hr⟩, ⟨%d2, %g2, %h2, Hw⟩, ⟨%d3, %g3, %h3, Hout⟩⟩
  rw [before_x] at h0
  rw [before_r] at h1
  rw [before_w] at h2
  subst h0; subst h1; subst h2
  ihave Ho := ho $$ Ho
  iexists K
  unfold bodyStart ctx inp
  isplitl [HR Hl Ho]
  · isplitl [HR Hl]
    · isplitl [HR] <;> iassumption
    · iexact Ho
  isplitl [Hx Hr Hw]
  · isplitl [Hx]; · iexact Hx
    isplitl [Hr] <;> iassumption
  isplitl [Hout]
  · iexists g3
    unfold outPts
    iexact Hout
  isplitl [Hb]; · iexact Hb
  isplitl [Hac]; · iexact Hac
  isplitl [Ht]; · iexact Ht
  isplitl [Hc] <;> iassumption

/-- What the kernel's run leaves is what the region takes back. -/
theorem body_leave (c : Dev nD) : bodyEnd m c ⊢ bodyPost m c := by
  have ho : (owesAny c 0 : sProp 𝕄) ⊢ (dats m 0 c).owesAt () t0_0.succ := by
    unfold Dat.owesAt Pipeline.owesWithin owesAny
    iintro ⟨%W, HO⟩
    iexists W
    isplitr
    · ipureintro; exact fun _ _ => Or.inl trivial
    iexact HO
  unfold bodyEnd bodyPost Φ₁ inp outPts
  iintro ⟨Ho, ⟨Hx, Hr, Hw⟩, Hout, Hb, Ha, Hs⟩
  ihave Ho := ho $$ Ho
  isplitl [Hb Ha Hs]
  · isplitl [Hb]; · iexact Hb
    isplitl [Ha] <;> iassumption
  isplitl [Ho]; · iexact Ho
  isplitl [Hx]
  · iexists (xAt m c)
    isplitr; · ipureintro; rfl
    iexact Hx
  isplitl [Hr]
  · iexists (rAt m c)
    isplitr; · ipureintro; rfl
    iexact Hr
  isplitl [Hw]
  · iexists (wAt m c)
    isplitr; · ipureintro; rfl
    iexact Hw
  iexists (outAt m)
  isplitr; · ipureintro; rfl
  iexact Hout

theorem body_wp (c : Dev nD) : bodyPre m c ⊢ WP c (onBufs (cc0_body (F := F))) fun _ => bodyPost m c := by
  have h : ∀ K, bodyStart m K c ⊢ WP c (onBufs (cc0_body (F := F))) fun _ => bodyPost m c := fun K =>
    (body_run m K c).trans (wp_mono _ _ _ fun _ => body_leave m c)
  refine (body_enter m c).trans ?_
  iintro ⟨%K, H⟩
  iapply (h K)
  iexact H

theorem body_obligation (c : Dev nD) : BodyObligation (dats (F := F) m 0 c) (defs₀ (F := F)) 𝒱₀ () Set.univ := fun t => by
  have e : t = t0_0 := fin_N0 t
  subst e
  rw [show (∀ Φ : Fin cfg0.W → sProp 𝕄, bigSep Finset.univ Φ = iprop(Φ (0 : Fin 4) ∗ Φ (1 : Fin 4) ∗ Φ (2 : Fin 4) ∗ Φ (3 : Fin 4))) from bigSep_W0]
  rw [show (∀ Φ : Fin cfg0.W → sProp 𝕄, bigSep Finset.univ Φ = iprop(Φ (0 : Fin 4) ∗ Φ (1 : Fin 4) ∗ Φ (2 : Fin 4) ∗ Φ (3 : Fin 4))) from bigSep_W0]
  simp only [owns_stage]
  exact body_wp m c

end Cert.Moe

end
-- ==== Proof.Run.lean ====
/-
# The whole program's run

The launch of the region on all the devices: what each starts from, what the staging may wait on, and what is read at
the end.
-/
module

public import proofs.«01_k».proof.Proof.Region
public import Idealize.ShloMosaic.Lib.Pipeline.CollectiveSegs

@[expose] public section

set_option maxRecDepth 16384

noncomputable section

namespace Cert.Moe

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

open Idealize.ShloMosaic.Pipeline (Dat Cfg Window BodyObligation cellOf)

variable (ρ : Dev nD → PrngReg)

/-! ## The launch's side conditions -/

theorem ownSemFacts : Pipeline.OwnSemFacts cfg0.spec osem where
  isScoped := by decide +kernel
  inj := fun x y h => Option.some.inj (csem_inj h)
  disj := by decide +kernel

/-- The fourth argument of the program that the kernel does not read: whole at its launch contents. -/
abbrev restPts (c : Dev nD) : sProp 𝕄 := ((c : Thread nD τ).loc main_arg1) ↦{fullShare} m ((c : Thread nD τ).loc main_arg1)

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ restPts m c) := by
  rw [Pipeline.unscopedRestP_none, unscopedRest0_eq]
  iintro ⟨Hr, Hlev, Hcr, -, HG⟩
  ihave Hc := (launch_creds (F := F) c) $$ Hcr
  imodintro
  unfold start
  isplitr [Hr]
  · isplitl [HG]; · iexact HG
    isplitl [Hc] <;> iassumption
  · iexact Hr

theorem phi_enter (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ bufPts accPts
  iintro ⟨Hs, -, Hb, Ha⟩
  isplitl [Hs]; · iexact Hs
  isplitl [Hb]
  · iexact Hb
  · iexact Ha

theorem phi_exit (c : Dev nD) :
    (dats m 0 c).Φ (Fin.last cfg0.N) ⊢ iprop(unscopedSems0 c ∗ Pipeline.ownSems0 osem c ∗ Pipeline.scopedRest cfg0.spec c) := by
  rw [show (dats m 0 c).Φ (Fin.last cfg0.N) = Φ₁ c from rfl, scopedRest0_eq]
  unfold Φ₁ bufPts accPts
  rw [sems0_eq]
  iintro ⟨Hb, Ha, Hu, Ho⟩
  isplitl [Hu]; · iexact Hu
  isplitl [Ho]; · iexact Ho
  isplitl [Hb]
  · iexact Hb
  · iexact Ha

/-- A staging semaphore is none of the kernel's, so it lies below everything a device owes. -/
theorem kind_stage (w : Fin cfg0.W) (s : Fin (cfg0.win w).nbuf) : kind (.dma ((cfg0.win w).sem s)) = none := by
  unfold kind Function.partialInv
  refine dif_neg ?_
  rintro ⟨_ | aj, h⟩
  · exact nomatch h
  · exact ownSemFacts.disj aj w s h

theorem waits (c : Dev nD) : (levAts L lv : sProp 𝕄) ⊢ Pipeline.cellsWaits cfgs (dats m) () 0 c :=
  Pipeline.cellsWaits_intro cfgs (dats m) () 0 c fun w s t => by
    rcases t with ⟨_ | _, ht⟩
    · show (levAts L lv : sProp 𝕄) ⊢ MayWait (c : Thread nD τ) _ () (O₀ c)
      rw [O₀_eq]
      exact mayWait c _ _ _ _ 0 (by rw [kind_stage]; rfl) (Or.inr (le_refl _)) (Or.inr (by decide)) (by decide)
    · show (levAts L lv : sProp 𝕄) ⊢ MayWait (c : Thread nD τ) _ () 0
      rw [MayWait_zero]; iintro -; iempintro

/-! ## The run -/

/-- What a window's array holds after the run. -/
def finalA (c : Dev nD) (w : Fin cfg0.W) : Buf (Elt F) ((cfg0.win w).arr.view.loc (c : Thread nD τ)) := (dats m 0 c).arrAt w cfg0.N

/-- Every device's windows' arrays hold what the data says and the program's second argument is unchanged. -/
def Ends (r : PUnit × MemSt nD τ sig (Elt F)) : Prop :=
  ∀ c : Dev nD, (∀ w : Fin cfg0.W, r.2.mem ((cfg0.win w).arr.view.loc (c : Thread nD τ)) = finalA m c w)
    ∧ r.2.mem ((c : Thread nD τ).loc main_arg1) = m ((c : Thread nD τ).loc main_arg1)

/-- The final read of what bypasses the region: the barrier semaphore's counter and the second argument. -/
theorem read_rest (c : Dev nD) (s' : Phys nD τ sig (Elt F)) :
    iprop(unscopedSems0 c ∗ restPts m c ∗ SI s') ⊢ |={Set.univ}=>
      (iprop(⌜(∀ sm : SemLoc sig, sm.isScoped .tc = false → s'.mem.sem ((c.tc : Thread nD τ), sm) = 0)
        ∧ s'.mem.mem ((c : Thread nD τ).loc main_arg1) = m ((c : Thread nD τ).loc main_arg1)⌝ ∗ SI s') : sProp 𝕄) := by
  have hr : iprop(SI s' ∗ restPts m c) ⊢ (⌜∀ i ∈ (Finset.univ : Finset (Idx ((c : Thread nD τ).loc main_arg1))),
      s'.mem.mem ((c : Thread nD τ).loc main_arg1) i = m ((c : Thread nD τ).loc main_arg1) i⌝ : sProp 𝕄) := SI_pointsTo_agree
  iintro ⟨Hu, Hr, HSI⟩
  ihave %h1 := hr $$ [HSI Hr]
  · isplitl [HSI] <;> iassumption
  imod (Pipeline.unscopedSems0_read (X := unscopedSems0 c) (c := c) fupd_intro s') $$ [Hu HSI] with ⟨%h2, HSI⟩
  · isplitl [Hu] <;> iassumption
  imodintro
  isplitr
  · ipureintro; exact ⟨h2, funext fun i => h1 i (Finset.mem_univ i)⟩
  · iexact HSI

/-- From any memory with zero counters every run terminates, and every final state has the arrays at what the data
    says, the second argument unchanged, and every semaphore counter at zero. -/
theorem run_main : θ_run defs (onTc (τ := τ) (main (F := F))) (s₀ m ρ) (fun r => Ends m r ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := block_pos0) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_all m) $$ HX with HG
      imodintro
      isplitl [HP] <;> iassumption)
    (hglob := glob m)
    (hA := fun _ _ => rfl) (hpf := fun _ k => k.elim0)
    (X := start m) (Y := fun c => unscopedSems0 c) (Z := restPts m)
    (hX := start_intro m ρ) (hin := phi_enter m) (hout := phi_exit m)
    (QY := fun c s => (∀ sm : SemLoc sig, sm.isScoped .tc = false → s.sem ((c.tc : Thread nD τ), sm) = 0)
      ∧ s.mem ((c : Thread nD τ).loc main_arg1) = m ((c : Thread nD τ).loc main_arg1))
    (hY := read_rest m)
    (hQ := fun _ h hs => ⟨fun c => ⟨(h c).1, (h c).2.2.2⟩, sem_eq_zero hs fun c => (h c).2.2.1⟩)

/-! ## What the arrays hold -/

theorem finalA_in (c : Dev nD) (w : Fin cfg0.W) (hw : (cfg0.win w).isOut = false) :
    finalA m c w = m ((cfg0.win w).arr.view.loc (c : Thread nD τ)) :=
  (dats (F := F) m 0 c).arrAt_in w hw _

end Cert.Moe

end
-- ==== Proof.Frames.lean ====
/-
# The frame claims

One run serves both readings of the kernel, over the machine's floats and over the reals: the arguments end unchanged
and every semaphore counter at zero. The reference's run is its operations' composed.
-/
module

public import proofs.«01_k».proof.Defs
public import proofs.«01_k».proof.Proof.Gen.Kernel
public import proofs.«01_k».proof.Proof.Gen.ReferenceIdeal.Run
public import proofs.«01_k».proof.Proof.Run

@[expose] public section

set_option maxRecDepth 16384

noncomputable section

namespace Cert.Moe

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

variable (ρ : Dev nD → PrngReg)

/-! ## The kernel's arguments -/

/-- After the run every argument array of every device is unchanged. -/
theorem args_unchanged (r : PUnit × MemSt nD τ sig (Elt F)) (h : Ends m r) (c : Dev nD) :
    r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3) :=
  ⟨((h c).1 (0 : Fin 4)).trans (finalA_in m c 0 rfl), (h c).2, ((h c).1 (1 : Fin 4)).trans (finalA_in m c 1 rfl),
    ((h c).1 (2 : Fin 4)).trans (finalA_in m c 2 rfl)⟩

/-- The kernel runs to its end, leaves its arguments unchanged and every semaphore counter at zero, for any float
    values, and under any body table equal to the kernel's. -/
theorem frame_any (D : Defs nD τ sig (Elt F) (Pipeline.Sig Λ₀ (Fin 1) fun p => (pcfgs (F := F) p).Adm)) (hD : D = defs) :
    θ_run D (onTc (τ := τ) (main (F := F))) ⟨m, fun _ => 0, ρ⟩ (fun r => (∀ c : Dev nD,
      r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)) ∧ r.2.sem = fun _ => 0) := by
  subst hD
  exact (θ_run defs _ _).mono (fun r h => ⟨args_unchanged m r h.1, h.2⟩) (run_main m ρ)

/-- The kernel over the reals: the frame claim. -/
theorem frame_KernelIdeal : Cert.quiescent_KernelIdeal := fun m ρ _ => frame_any m ρ _ rfl

/-! ## The kernel over the machine's floats is the same program -/

theorem bodies_same : Cert.Kernel.defs₀ (F := F) = Cert.KernelIdeal.defs₀ (F := F) := by
  unfold Cert.Kernel.defs₀ Cert.KernelIdeal.defs₀
  refine congrArg Defs.onTc (funext fun l => funext fun a => ?_)
  match l, a with
  | ⟨0, _⟩, (t, s) => rfl

theorem defs_same : Cert.Kernel.defs (F := F) = Cert.KernelIdeal.defs (F := F) := congrArg (Pipeline.defs _) bodies_same

/-- The kernel over the machine's floats: the frame claim, from the same run. -/
theorem frame_Kernel : Cert.quiescent_Kernel := fun m ρ _ => frame_any (F := Bits) m ρ Cert.Kernel.defs defs_same

/-! ## The reference -/

/-- The reference runs to its end and leaves its arguments unchanged; it has no semaphore. -/
theorem frame_ReferenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run m ρ)

end Cert.Moe

end
-- ==== Proof.Contribution.lean ====
/-
# A device's contribution, entry by entry

Over the extended reals, where a product with zero is zero. A device's contribution at a token and a column is the
token's row times the column of its expert's weights, for each of its two experts that the token is routed to, and zero
for an expert that it is not routed to. The accumulator sums the contributions of the 32 devices.
-/
module

public import proofs.«01_k».proof.Proof.Values
public import Idealize.ShloMosaic.Lib.Pointwise

@[expose] public section

set_option maxRecDepth 16384

noncomputable section

namespace Cert.Moe

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable (m : (ℓ : Loc nD τ sig) → Buf (Elt Ideal) ℓ)

/-- The arrays of device `c`: the tokens, their routes and its experts' weights. -/
def xs (c : Dev nD) : Vec Ideal S256x128 .f32 := m ((c : Thread nD τ).loc main_arg0)
def routes (c : Dev nD) : IVec S256x1 32 := m ((c : Thread nD τ).loc main_arg2)
def weights (c : Dev nD) : Vec Ideal S2x128x256 .f32 := m ((c : Thread nD τ).loc main_arg3)

/-- The staged operands are the arrays. -/
theorem xAt_eq (c : Dev nD) : xAt m c = xs m c := by
  funext i
  show m _ _ = m _ _
  refine congrArg (m ((c : Thread nD τ).loc main_arg0)) ?_
  refine idx2_ext ?_ ?_
  · show 0 * 256 + 1 * (i 0).val = (i 0).val; omega
  · show 0 * 128 + 1 * (i 1).val = (i 1).val; omega

theorem rAt_eq (c : Dev nD) : rAt m c = routes m c := by
  funext i
  show m _ _ = m _ _
  refine congrArg (m ((c : Thread nD τ).loc main_arg2)) ?_
  refine idx2_ext ?_ ?_
  · show 0 * 256 + 1 * (i 0).val = (i 0).val; omega
  · show 0 * 1 + 1 * (i 1).val = (i 1).val; omega
theorem wAt_eq (c : Dev nD) : wAt m c = weights m c := by
  funext i
  show m _ _ = m _ _
  refine congrArg (m ((c : Thread nD τ).loc main_arg3)) ?_
  refine Shape.idx3_ext ?_ ?_ ?_
  · show 0 * 2 + 1 * (i 0).val = (i 0).val; omega
  · show 0 * 128 + 1 * (i 1).val = (i 1).val; omega
  · show 0 * 256 + 1 * (i 2).val = (i 2).val; omega

/-- The first expert's weights, as loaded; -/
theorem w0At_apply (c : Dev nD) (k : Fin 128) (h : Fin 256) : w0At m c (ix3 0 k h) = weights m c (ix3 (0 : Fin 2) k h) := by
  unfold w0At
  rw [wAt_eq]
  show weights m c _ = _
  refine congrArg (weights m c) (Shape.idx3_ext ?_ ?_ ?_)
  · show 0 + 1 * 0 = 0; omega
  · show 0 + 1 * k.val = k.val; omega
  · show 0 + 1 * h.val = h.val; omega
/-- the second's. -/
theorem w1At_apply (c : Dev nD) (k : Fin 128) (h : Fin 256) : w1At m c (ix3 0 k h) = weights m c (ix3 (1 : Fin 2) k h) := by
  unfold w1At
  rw [wAt_eq]
  show weights m c _ = _
  refine congrArg (weights m c) (Shape.idx3_ext ?_ ?_ ?_)
  · show 1 + 1 * 0 = 1; omega
  · show 0 + 1 * k.val = k.val; omega
  · show 0 + 1 * h.val = h.val; omega

/-- The factor of a token routed to `r` for the expert numbered `w`: one if they are the same, zero otherwise. -/
theorem factor_eq (r w : BitVec 32) :
    (FloatOps.sitofp (F := Ideal) FTy.f32 (BitVec.setWidth 32 (IntOp.cmpi CmpIPredicate.eq r w)) : EReal) = if r = w then 1 else 0 := by
  by_cases h : r = w
  · subst h
    simp [IntOp.cmpi]
    show ((BitVec.toInt (1#32) : ℝ) : EReal) = 1
    simp
  · rw [if_neg h]
    have e : IntOp.cmpi CmpIPredicate.eq r w = 0#1 := by
      have hb : (r == w) = false := by simpa using h
      simp [IntOp.cmpi, hb]
    rw [e]
    show ((BitVec.toInt (BitVec.setWidth 32 0#1) : ℝ) : EReal) = 0
    simp

/-- A product over a row scaled by that factor is the product, or zero. -/
theorem sum_factor (p : Prop) [Decidable p] (x y : Fin 128 → EReal) :
    ∑ k, x k * (if p then 1 else 0) * y k = if p then ∑ k, x k * y k else 0 := by
  by_cases h : p
  · simp [h]
  · simp [h]

/-- The number of device `c`'s first expert, as the kernel computes it; -/
theorem first_num (c : Dev nD) : Scalar.addi (Scalar.muli (devW c) 2#32) 0#32 = BitVec.ofNat 32 (2 * c.val) := by
  revert c; decide
/-- the second's. -/
theorem second_num (c : Dev nD) : Scalar.addi (Scalar.muli (devW c) 2#32) 1#32 = BitVec.ofNat 32 (2 * c.val + 1) := by
  revert c; decide

/-- A token's row times a column of the weights of device `c`'s expert `e`. -/
def prod (c : Dev nD) (e : Fin 2) (i h : Fin 256) : EReal := ∑ k : Fin 128, xs m c (ix2 i k) * weights m c (ix3 e k h)

/-- Device `c`'s contribution at token `i` and column `h`. -/
theorem contrib_apply (c : Dev nD) (i h : Fin 256) :
    contrib m c (ix2 i h) = (if routes m c (ix2 i 0) = BitVec.ofNat 32 (2 * c.val) then prod m c 0 i h else 0)
      + (if routes m c (ix2 i 0) = BitVec.ofNat 32 (2 * c.val + 1) then prod m c 1 i h else 0) := by
  unfold contrib
  pointwise [k0_pay4, k0_pay3, k0_pay2, k0_pay1]
  rw [first_num, second_num]
  simp only [factor_eq, sum_factor, w0At_apply, w1At_apply, xAt_eq, rAt_eq]
  rfl

/-- The accumulator is the sum over the receive buffer's slots. -/
theorem accAt_apply (c : Dev nD) (r : Fin 8) (h : Fin 256) : accAt m c (ix2 r h) = ∑ j : Fin 32, rbufAt m c (ix3 j r h) := by
  unfold accAt
  pointwise [k0_pay37, k0_pay38]

/-- An entry of the result is the sum over the devices of their contributions to it. -/
theorem outAt_apply (i h : Fin 256) : outAt m (ix2 i h) = ∑ j : Fin 32, contrib m j (ix2 i h) := by
  unfold outAt
  refine (congrArg (accAt m (rowsOf (ix2 i h))) (idx2_ext (y := ix2 (⟨i.val % 8, Nat.mod_lt _ (by decide)⟩ : Fin 8) h) rfl rfl)).trans ?_
  refine (accAt_apply m _ _ _).trans (Finset.sum_congr rfl fun j _ => ?_)
  unfold rbufAt
  refine congrArg (contrib m j) (idx2_ext ?_ rfl)
  show 8 * (i.val / 8) + i.val % 8 = i.val
  omega

end Cert.Moe

end
-- ==== Proof.Reference.lean ====
/-
# The reference, entry by entry

Over the extended reals: a token's row times the weights of the expert that its route names, and zero if it names
none.
-/
module

public import proofs.«01_k».proof.Proof.Gen.ReferenceIdeal.Run
public import Idealize.ShloMosaic.Lib.ViewIndex
public import Idealize.ShloMosaic.Lib.Pointwise

@[expose] public section

set_option maxRecDepth 16384

noncomputable section

namespace Cert.Moe.Ref

open Cert.ReferenceIdeal Cert.ReferenceIdeal.Gen
open Idealize.ShloMosaic

/-- The route clipped to the experts' numbers, as the reference's text has it. -/
def clip (r : BitVec 32) : BitVec 32 :=
  Scalar.select (IntOp.cmpi .slt (IntOp.minsi 63#32 (IntOp.maxsi 0#32 r)) 0#32) (IntOp.addi (IntOp.minsi 63#32 (IntOp.maxsi 0#32 r)) 64#32) (IntOp.minsi 63#32 (IntOp.maxsi 0#32 r))

/-- The gathered weights: for each token, those of the expert that the start index names. -/
theorem gather_apply (w : Vec Ideal S64x128x256 .f32) (s : IVec S256x1 32) (i : Fin 256) (k : Fin 128) (h : Fin 256) :
    Host.gather gather_S64x128x256_S256x1_S256x128x256_12_0_n_n_0_1_1128256 w s (ix3 i k h)
      = w (ix3 (⟨min (s (ix2 i 0)).toInt.toNat 63, by omega⟩ : Fin 64) k h) := by
  unfold Host.gather
  refine congrArg w (Shape.idx3_ext ?_ ?_ ?_)
  · show GatherDims.start _ _ s 0 + GatherDims.batchCoord _ _ 0 + GatherDims.offCoord _ _ 0 = min (s (ix2 i 0)).toInt.toNat 63
    rw [GatherDims.batchCoord_eq_zero _ _ _ List.not_mem_nil, GatherDims.offCoord_eq_zero _ _ _ (by decide)]
    unfold GatherDims.start
    rw [dif_pos (by decide)]
    have e : GatherDims.siIdx gather_S64x128x256_S256x1_S256x128x256_12_0_n_n_0_1_1128256 (ix3 i k h) ⟨0, by decide⟩ = ix2 i 0 := by
      funext b
      match b with
      | ⟨0, _⟩ => rfl
      | ⟨1, _⟩ => rfl
    exact congrArg (fun z => min (s z).toInt.toNat 63) e
  · show GatherDims.start _ _ s 1 + GatherDims.batchCoord _ _ 1 + GatherDims.offCoord _ _ 1 = k.val
    rw [GatherDims.batchCoord_eq_zero _ _ _ List.not_mem_nil]
    unfold GatherDims.start
    rw [dif_neg (by decide), Nat.zero_add]
    rfl
  · show GatherDims.start _ _ s 2 + GatherDims.batchCoord _ _ 2 + GatherDims.offCoord _ _ 2 = h.val
    rw [GatherDims.batchCoord_eq_zero _ _ _ List.not_mem_nil]
    unfold GatherDims.start
    rw [dif_neg (by decide), Nat.zero_add]
    rfl

/-- The routes as a vector, and a number at every place of one. -/
def vec (r : IVec S256x1 32) : IVec S256 32 := shapeCast S256 r shapeCasts_S256x1_S256
def all (b : BitVec 32) : IVec S256 32 := broadcastInDim S256 ![] bcast_S_S256 (constantI S_ 32 b)

/-- Which tokens' routes name an expert. -/
def named (r : IVec S256x1 32) : IVec S256 1 := andi (cmpi .sge (vec r) (all 0#32)) (cmpi .slt (vec r) (all 64#32))

/-- The routes brought into the experts' range. -/
def clipped (r : IVec S256x1 32) : IVec S256 32 := minsi (all 63#32) (maxsi (all 0#32) (vec r))

/-- The gather's start indices. -/
def starts (r : IVec S256x1 32) : IVec S256x1 32 :=
  broadcastInDim S256x1 ![0] bcast_S256_S256x1_0 (select (cmpi .slt (clipped r) (all 0#32)) (addi (clipped r) (all 64#32)) (clipped r))

/-- The reference's result of its arguments. -/
def value (x : Vec Ideal S256x128 .f32) (r : IVec S256x1 32) (w : Vec Ideal S64x128x256 .f32) : Vec Ideal S256x256 .f32 :=
  select (broadcastInDim S256x256 ![0, 1] bcast_S256x1_S256x256_0_1 (broadcastInDim S256x1 ![0] bcast_S256_S256x1_0 (named r)))
    (Host.dotGeneral (F := Ideal) (φ₁ := .f32) (φ₂ := .f32) dot_S256x128_S256x128x256_S256x256_1_1_n_2_0_0 none x
      (Host.gather gather_S64x128x256_S256x1_S256x128x256_12_0_n_n_0_1_1128256 w (starts r)))
    (broadcastInDim S256x256 ![] bcast_S_S256x256 (constant (F := Ideal) S_ .f32 0x00000000#32))

/-- Where the gather starts for a token: its route, clipped. -/
theorem starts_apply (r : IVec S256x1 32) (i : Fin 256) : starts r (ix2 i 0) = clip (r (ix2 i 0)) := by
  unfold clip
  pointwise [starts, clipped, vec, all]

/-- Clipping leaves the number of an expert as it is. -/
theorem clip_of_lt (r : BitVec 32) (hr : r.toNat < 64) : (clip r).toInt.toNat = r.toNat := by
  have h : ∀ n : Fin 64, (clip (BitVec.ofNat 32 n.val)).toInt.toNat = n.val := by decide
  have e : BitVec.ofNat 32 r.toNat = r := by simp
  have := h ⟨r.toNat, hr⟩
  rwa [show ((⟨r.toNat, hr⟩ : Fin 64) : ℕ) = r.toNat from rfl, e] at this

/-- The reference chooses the product exactly for a route that is an expert's number. -/
theorem select_named {α : Type} (r : BitVec 32) (a b : α) :
    Scalar.select (IntOp.andi (IntOp.cmpi CmpIPredicate.sge r 0#32) (IntOp.cmpi CmpIPredicate.slt r 64#32)) a b = if r.toNat < 64 then a else b := by
  have hs : r.toInt = if 2 * r.toNat < 2 ^ 32 then (r.toNat : ℤ) else (r.toNat : ℤ) - (2 ^ 32 : ℕ) := BitVec.toInt_eq_toNat_cond r
  have hb : r.toNat < 2 ^ 32 := r.isLt
  have h0 : (0#32 : BitVec 32).toInt = 0 := by decide
  have h64 : (64#32 : BitVec 32).toInt = 64 := by decide
  by_cases hr : r.toNat < 64
  · have e0 : BitVec.sle 0#32 r = true := by rw [BitVec.sle_iff_toInt_le, h0, hs]; split <;> omega
    have e1 : BitVec.slt r 64#32 = true := by rw [BitVec.slt_iff_toInt_lt, h64, hs]; split <;> omega
    simp [IntOp.cmpi, IntOp.andi, Scalar.select, e0, e1, hr]
  · by_cases hn : BitVec.sle 0#32 r = true
    · have e1 : BitVec.slt r 64#32 = false := by
        rw [BitVec.sle_iff_toInt_le, h0, hs] at hn
        rw [Bool.eq_false_iff, ne_eq, BitVec.slt_iff_toInt_lt, h64, hs]
        split at hn <;> split <;> omega
      simp [IntOp.cmpi, IntOp.andi, Scalar.select, e1, hr]
    · have e0 : BitVec.sle 0#32 r = false := by simpa using hn
      simp [IntOp.cmpi, IntOp.andi, Scalar.select, e0, hr]

/-- An entry of the reference's result. -/
theorem value_apply (x : Vec Ideal S256x128 .f32) (r : IVec S256x1 32) (w : Vec Ideal S64x128x256 .f32) (i h : Fin 256) :
    value x r w (ix2 i h) = if (r (ix2 i 0)).toNat < 64 then
      ∑ k : Fin 128, x (ix2 i k) * w (ix3 (⟨min (r (ix2 i 0)).toNat 63, by omega⟩ : Fin 64) k h) else 0 := by
  unfold value
  pointwise [named, vec, all]
  rw [select_named]
  by_cases hr : (r (ix2 i 0)).toNat < 64
  · rw [if_pos hr, if_pos hr]
    refine Finset.sum_congr rfl fun k _ => ?_
    refine congrArg (x (ix2 i k) * ·) ((gather_apply w (starts r) i k h).trans (congrArg w (congrArg (fun e : Fin 64 => ix3 e k h) (Fin.ext ?_))))
    show min (starts r (ix2 i 0)).toInt.toNat 63 = min (r (ix2 i 0)).toNat 63
    rw [starts_apply, clip_of_lt _ hr]
  · rw [if_neg hr, if_neg hr]

end Cert.Moe.Ref

end
-- ==== Proof.Agreement.lean ====
/-
# The kernel computes the reference

Over the extended reals and for every input: the sum over the devices and their experts has, for each token, at most one
product that is not zero, that of the expert its route names; every device's result is the reference's.
-/
module

public import proofs.«01_k».proof.Proof.Frames
public import proofs.«01_k».proof.Proof.Contribution
public import proofs.«01_k».proof.Proof.Reference
public import Idealize.ShloMosaic.Lib.Pipeline.ValueKit

@[expose] public section

set_option maxRecDepth 16384

noncomputable section

namespace Cert.Moe

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

open Idealize.ShloMosaic.Pipeline

/-- Of 32 pairs of experts' numbers, the one that has `r` gives its term: the sum is the term of `r`, or zero if `r` is
    not the number of an expert. -/
theorem sum_pairs (r : BitVec 32) (D : ℕ → EReal) :
    (∑ j : Fin 32, ((if r = BitVec.ofNat 32 (2 * j.val) then D (2 * j.val) else 0)
        + (if r = BitVec.ofNat 32 (2 * j.val + 1) then D (2 * j.val + 1) else 0)))
      = if r.toNat < 64 then D r.toNat else 0 := by
  have hw : ∀ n, n < 64 → (r = BitVec.ofNat 32 n ↔ r.toNat = n) := fun n hn => by
    constructor
    · intro h; rw [h, BitVec.toNat_ofNat]; omega
    · intro h; rw [← h]; simp
  have e : ∀ j : Fin 32, ((if r = BitVec.ofNat 32 (2 * j.val) then D (2 * j.val) else 0)
        + (if r = BitVec.ofNat 32 (2 * j.val + 1) then D (2 * j.val + 1) else 0))
      = if j.val = r.toNat / 2 then D r.toNat else 0 := fun j => by
    have hj := j.isLt
    simp only [hw (2 * j.val) (by omega), hw (2 * j.val + 1) (by omega)]
    by_cases h0 : r.toNat = 2 * j.val
    · rw [if_pos h0, if_neg (by omega), if_pos (by omega), h0, add_zero]
    · by_cases h1 : r.toNat = 2 * j.val + 1
      · rw [if_neg h0, if_pos h1, if_pos (by omega), h1, zero_add]
      · rw [if_neg h0, if_neg h1, if_neg (by omega), add_zero]
  rw [Finset.sum_congr rfl fun j _ => e j]
  by_cases hr : r.toNat < 64
  · rw [if_pos hr, Finset.sum_eq_single (⟨r.toNat / 2, by omega⟩ : Fin 32)]
    · exact if_pos rfl
    · intro j _ hne; exact if_neg fun h => hne (Fin.ext h)
    · intro h; exact absurd (Finset.mem_univ _) h
  · rw [if_neg hr]
    exact Finset.sum_eq_zero fun j _ => if_neg (by have := j.isLt; omega)

section
variable (m : (ℓ : Loc nD τ sig) → Buf (Elt Ideal) ℓ)

/-- A device's result array ends as the kernel leaves the result. -/
theorem final_out (c : Dev nD) : finalA m c 3 = outAt m := by
  refine (dats m 0 c).arrAt_eq_of_after_last 3 t0_0 (by decide +kernel) (outAt m) fun j => ?_
  rfl

/-- The kernel's result, where every device has the same tokens and routes and its own two experts' weights of the 64. -/
theorem out_eq (x : Vec Ideal S256x128 .f32) (r : IVec S256x1 32) (w : Vec Ideal ⟨3, ![64, 128, 256]⟩ .f32)
    (hx : ∀ c, xs m c = x) (hr : ∀ c, routes m c = r)
    (hw : ∀ c : Dev nD, weights m c = Layout.block ⟨3, ![2, 128, 256]⟩ ⟨3, ![64, 128, 256]⟩ 0 32 c w) :
    outAt m = Ref.value x r w := by
  funext i
  obtain ⟨a, b, rfl⟩ : ∃ (a b : Fin 256), i = ix2 a b := ⟨i 0, i 1, eq_ix2 i⟩
  rw [outAt_apply, Ref.value_apply]
  refine Eq.trans ?_ (sum_pairs (r (ix2 a 0)) fun n => ∑ k : Fin 128, x (ix2 a k) * w (ix3 (⟨min n 63, by omega⟩ : Fin 64) k b))
  refine Finset.sum_congr rfl fun c _ => ?_
  have hp : ∀ e : Fin 2, prod m c e a b = ∑ k : Fin 128, x (ix2 a k) * w (ix3 (⟨min (2 * c.val + e.val) 63, by omega⟩ : Fin 64) k b) := fun e => by
    unfold prod
    rw [hx, hw]
    refine Finset.sum_congr rfl fun k _ => congrArg (x (ix2 a k) * ·) ?_
    refine congrArg w (Shape.idx3_ext ?_ ?_ ?_)
    · show c.val * 2 + e.val = min (2 * c.val + e.val) 63
      have h1 : c.val < 32 := c.isLt
      have h2 := e.isLt
      omega
    · rfl
    · rfl
  rw [contrib_apply, hr, hp, hp]
  rfl

end

/-- On every input, with the experts' weights cut over the 32 devices and the other arguments the same on all: the kernel
    and the reference run to their ends, every device's result is the reference's, and every argument is unchanged. -/
theorem algebraic : Cert.algebraic_KernelIdeal_ReferenceIdeal := by
  intro m g m' g' _ hagree
  refine ⟨Ref.value (m' (((0 : Dev Cert.ReferenceIdeal.nD).tc : Thread Cert.ReferenceIdeal.nD Cert.ReferenceIdeal.τ).loc Cert.ReferenceIdeal.main_arg0))
    (m' (((0 : Dev Cert.ReferenceIdeal.nD).tc : Thread Cert.ReferenceIdeal.nD Cert.ReferenceIdeal.τ).loc Cert.ReferenceIdeal.main_arg2))
    (m' (((0 : Dev Cert.ReferenceIdeal.nD).tc : Thread Cert.ReferenceIdeal.nD Cert.ReferenceIdeal.τ).loc Cert.ReferenceIdeal.main_arg3)), ?_, ?_⟩
  · refine (θ_run _ _ _).mono (fun r h c => ?_) (run_main m g)
    have e := out_eq m _ _ _ (fun c => (hagree c).1) (fun c => (hagree c).2.2.1) (fun c => (hagree c).2.2.2)
    obtain ⟨ha, h1⟩ := h.1 c
    exact ⟨((ha 3).trans (final_out m c)).trans e, (ha 0).trans (finalA_in m c 0 rfl), h1, (ha 1).trans (finalA_in m c 1 rfl), (ha 2).trans (finalA_in m c 2 rfl)⟩
  · exact (θ_run _ _ _).mono (fun r h => h 0) (Cert.ReferenceIdeal.Value.run m' g')

end Cert.Moe

end
-- ==== Proof.lean ====
/-
# The claims, assembled

Each claim is proved in a module of its own; this one puts them together.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Frames
public import proofs.«01_k».proof.Proof.Agreement
public import Idealize.ShloMosaic.Adequacy
public import Idealize.ShloMosaic.Init

@[expose] public section

noncomputable section

namespace Cert.Proof

/-- The three programs run to their ends with their arguments unchanged and every semaphore counter at zero; the kernel
    over the reals is the kernel's own text; over the extended reals every device's result is the reference's. -/
theorem claim : Cert.Claim :=
  ⟨Cert.Kernel.Gen.facts, Cert.KernelIdeal.Gen.facts, Cert.ReferenceIdeal.Gen.facts,
    Cert.Moe.frame_Kernel, Cert.Moe.frame_KernelIdeal, Cert.Moe.frame_ReferenceIdeal, trivial, Cert.Moe.algebraic⟩

end Cert.Proof

end
